-- ==== Defs.lean ====
def Pre_Kernel [hPre_rolled_by_1_Kernel : Cert.Pre_rolled_by_1_Kernel.Facts] (m : (ℓ : Loc Cert.Kernel.nD Cert.Kernel.τ Cert.Kernel.sig) → Buf (Elt Bits) ℓ) : Prop :=
  ∀ c : Dev Cert.Kernel.nD,
    (Cert.Pre_rolled_by_1_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_2_Kernel [hPre_rolled_by_2_Kernel : Cert.Pre_rolled_by_2_Kernel.Facts] (m : (ℓ : Loc Cert.Kernel.nD Cert.Kernel.τ Cert.Kernel.sig) → Buf (Elt Bits) ℓ) : Prop :=
  ∀ c : Dev Cert.Kernel.nD,
    (Cert.Pre_rolled_by_2_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_3_Kernel [hPre_rolled_by_3_Kernel : Cert.Pre_rolled_by_3_Kernel.Facts] (m : (ℓ : Loc Cert.Kernel.nD Cert.Kernel.τ Cert.Kernel.sig) → Buf (Elt Bits) ℓ) : Prop :=
  ∀ c : Dev Cert.Kernel.nD,
    (Cert.Pre_rolled_by_3_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_4_Kernel [hPre_rolled_by_4_Kernel : Cert.Pre_rolled_by_4_Kernel.Facts] (m : (ℓ : Loc Cert.Kernel.nD Cert.Kernel.τ Cert.Kernel.sig) → Buf (Elt Bits) ℓ) : Prop :=
  ∀ c : Dev Cert.Kernel.nD,
    (Cert.Pre_rolled_by_4_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_5_Kernel [hPre_rolled_by_5_Kernel : Cert.Pre_rolled_by_5_Kernel.Facts] (m : (ℓ : Loc Cert.Kernel.nD Cert.Kernel.τ Cert.Kernel.sig) → Buf (Elt Bits) ℓ) : Prop :=
  ∀ c : Dev Cert.Kernel.nD,
    (Cert.Pre_rolled_by_5_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_6_Kernel [hPre_rolled_by_6_Kernel : Cert.Pre_rolled_by_6_Kernel.Facts] (m : (ℓ : Loc Cert.Kernel.nD Cert.Kernel.τ Cert.Kernel.sig) → Buf (Elt Bits) ℓ) : Prop :=
  ∀ c : Dev Cert.Kernel.nD,
    (Cert.Pre_rolled_by_6_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_7_Kernel [hPre_rolled_by_7_Kernel : Cert.Pre_rolled_by_7_Kernel.Facts] (m : (ℓ : Loc Cert.Kernel.nD Cert.Kernel.τ Cert.Kernel.sig) → Buf (Elt Bits) ℓ) : Prop :=
  ∀ c : Dev Cert.Kernel.nD,
    (Cert.Pre_rolled_by_7_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rolled_by_1_Kernel : Cert.Pre_rolled_by_1_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_1_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_2_Kernel [hPre_rolled_by_2_Kernel : Cert.Pre_rolled_by_2_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_2_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_3_Kernel [hPre_rolled_by_3_Kernel : Cert.Pre_rolled_by_3_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_3_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_4_Kernel [hPre_rolled_by_4_Kernel : Cert.Pre_rolled_by_4_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_4_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_5_Kernel [hPre_rolled_by_5_Kernel : Cert.Pre_rolled_by_5_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_5_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_6_Kernel [hPre_rolled_by_6_Kernel : Cert.Pre_rolled_by_6_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_6_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_7_Kernel [hPre_rolled_by_7_Kernel : Cert.Pre_rolled_by_7_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_7_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rolled_by_1_ReferenceIdeal [hPre_rolled_by_1_ReferenceIdeal : Cert.Pre_rolled_by_1_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_1_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_2_ReferenceIdeal [hPre_rolled_by_2_ReferenceIdeal : Cert.Pre_rolled_by_2_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_3_ReferenceIdeal [hPre_rolled_by_3_ReferenceIdeal : Cert.Pre_rolled_by_3_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_3_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_4_ReferenceIdeal [hPre_rolled_by_4_ReferenceIdeal : Cert.Pre_rolled_by_4_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_4_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_5_ReferenceIdeal [hPre_rolled_by_5_ReferenceIdeal : Cert.Pre_rolled_by_5_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_5_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_6_ReferenceIdeal [hPre_rolled_by_6_ReferenceIdeal : Cert.Pre_rolled_by_6_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_6_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_7_ReferenceIdeal [hPre_rolled_by_7_ReferenceIdeal : Cert.Pre_rolled_by_7_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_7_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_rolled_by_1_Kernel : Cert.Pre_rolled_by_1_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_2_Kernel [hKernel : Cert.Kernel.Facts] [hPre_rolled_by_2_Kernel : Cert.Pre_rolled_by_2_Kernel.Facts] : Prop :=
  ∀ (m : (ℓ : Loc Cert.Kernel.nD Cert.Kernel.τ Cert.Kernel.sig) → Buf (Elt Bits) ℓ) (g : Dev Cert.Kernel.nD → PrngReg), Pre_Kernel_rolled_by_2_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_3_Kernel [hKernel : Cert.Kernel.Facts] [hPre_rolled_by_3_Kernel : Cert.Pre_rolled_by_3_Kernel.Facts] : Prop :=
  ∀ (m : (ℓ : Loc Cert.Kernel.nD Cert.Kernel.τ Cert.Kernel.sig) → Buf (Elt Bits) ℓ) (g : Dev Cert.Kernel.nD → PrngReg), Pre_Kernel_rolled_by_3_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_4_Kernel [hKernel : Cert.Kernel.Facts] [hPre_rolled_by_4_Kernel : Cert.Pre_rolled_by_4_Kernel.Facts] : Prop :=
  ∀ (m : (ℓ : Loc Cert.Kernel.nD Cert.Kernel.τ Cert.Kernel.sig) → Buf (Elt Bits) ℓ) (g : Dev Cert.Kernel.nD → PrngReg), Pre_Kernel_rolled_by_4_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_5_Kernel [hKernel : Cert.Kernel.Facts] [hPre_rolled_by_5_Kernel : Cert.Pre_rolled_by_5_Kernel.Facts] : Prop :=
  ∀ (m : (ℓ : Loc Cert.Kernel.nD Cert.Kernel.τ Cert.Kernel.sig) → Buf (Elt Bits) ℓ) (g : Dev Cert.Kernel.nD → PrngReg), Pre_Kernel_rolled_by_5_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_6_Kernel [hKernel : Cert.Kernel.Facts] [hPre_rolled_by_6_Kernel : Cert.Pre_rolled_by_6_Kernel.Facts] : Prop :=
  ∀ (m : (ℓ : Loc Cert.Kernel.nD Cert.Kernel.τ Cert.Kernel.sig) → Buf (Elt Bits) ℓ) (g : Dev Cert.Kernel.nD → PrngReg), Pre_Kernel_rolled_by_6_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_7_Kernel [hKernel : Cert.Kernel.Facts] [hPre_rolled_by_7_Kernel : Cert.Pre_rolled_by_7_Kernel.Facts] : Prop :=
  ∀ (m : (ℓ : Loc Cert.Kernel.nD Cert.Kernel.τ Cert.Kernel.sig) → Buf (Elt Bits) ℓ) (g : Dev Cert.Kernel.nD → PrngReg), Pre_Kernel_rolled_by_7_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rolled_by_1_Kernel : Cert.Pre_rolled_by_1_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_2_Kernel [hKernelIdeal : Cert.KernelIdeal.Facts] [hPre_rolled_by_2_Kernel : Cert.Pre_rolled_by_2_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_2_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_3_Kernel [hKernelIdeal : Cert.KernelIdeal.Facts] [hPre_rolled_by_3_Kernel : Cert.Pre_rolled_by_3_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_3_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_4_Kernel [hKernelIdeal : Cert.KernelIdeal.Facts] [hPre_rolled_by_4_Kernel : Cert.Pre_rolled_by_4_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_4_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_5_Kernel [hKernelIdeal : Cert.KernelIdeal.Facts] [hPre_rolled_by_5_Kernel : Cert.Pre_rolled_by_5_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_5_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_6_Kernel [hKernelIdeal : Cert.KernelIdeal.Facts] [hPre_rolled_by_6_Kernel : Cert.Pre_rolled_by_6_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_6_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_7_Kernel [hKernelIdeal : Cert.KernelIdeal.Facts] [hPre_rolled_by_7_Kernel : Cert.Pre_rolled_by_7_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_7_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_1_ReferenceIdeal [hReferenceIdeal : Cert.ReferenceIdeal.Facts] [hPre_rolled_by_1_ReferenceIdeal : Cert.Pre_rolled_by_1_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_1_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_2_ReferenceIdeal [hReferenceIdeal : Cert.ReferenceIdeal.Facts] [hPre_rolled_by_2_ReferenceIdeal : Cert.Pre_rolled_by_2_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_2_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_3_ReferenceIdeal [hReferenceIdeal : Cert.ReferenceIdeal.Facts] [hPre_rolled_by_3_ReferenceIdeal : Cert.Pre_rolled_by_3_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_3_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_4_ReferenceIdeal [hReferenceIdeal : Cert.ReferenceIdeal.Facts] [hPre_rolled_by_4_ReferenceIdeal : Cert.Pre_rolled_by_4_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_4_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_5_ReferenceIdeal [hReferenceIdeal : Cert.ReferenceIdeal.Facts] [hPre_rolled_by_5_ReferenceIdeal : Cert.Pre_rolled_by_5_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_5_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_6_ReferenceIdeal [hReferenceIdeal : Cert.ReferenceIdeal.Facts] [hPre_rolled_by_6_ReferenceIdeal : Cert.Pre_rolled_by_6_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_6_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_7_ReferenceIdeal [hReferenceIdeal : Cert.ReferenceIdeal.Facts] [hPre_rolled_by_7_ReferenceIdeal : Cert.Pre_rolled_by_7_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_7_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rolled_by_1_Kernel : Cert.Pre_rolled_by_1_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![8, 2048, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![8, 2048, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_2_Kernel [hKernelIdeal : Cert.KernelIdeal.Facts] [hReferenceIdeal : Cert.ReferenceIdeal.Facts] [hPre_rolled_by_2_Kernel : Cert.Pre_rolled_by_2_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_2_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![8, 2048, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![8, 2048, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_3_Kernel [hKernelIdeal : Cert.KernelIdeal.Facts] [hReferenceIdeal : Cert.ReferenceIdeal.Facts] [hPre_rolled_by_3_Kernel : Cert.Pre_rolled_by_3_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_3_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![8, 2048, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![8, 2048, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_4_Kernel [hKernelIdeal : Cert.KernelIdeal.Facts] [hReferenceIdeal : Cert.ReferenceIdeal.Facts] [hPre_rolled_by_4_Kernel : Cert.Pre_rolled_by_4_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_4_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![8, 2048, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![8, 2048, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_5_Kernel [hKernelIdeal : Cert.KernelIdeal.Facts] [hReferenceIdeal : Cert.ReferenceIdeal.Facts] [hPre_rolled_by_5_Kernel : Cert.Pre_rolled_by_5_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_5_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![8, 2048, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![8, 2048, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_6_Kernel [hKernelIdeal : Cert.KernelIdeal.Facts] [hReferenceIdeal : Cert.ReferenceIdeal.Facts] [hPre_rolled_by_6_Kernel : Cert.Pre_rolled_by_6_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_6_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![8, 2048, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![8, 2048, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_7_Kernel [hKernelIdeal : Cert.KernelIdeal.Facts] [hReferenceIdeal : Cert.ReferenceIdeal.Facts] [hPre_rolled_by_7_Kernel : Cert.Pre_rolled_by_7_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_7_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![8, 2048, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![8, 2048, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rolled_by_1_Kernel : Cert.Pre_rolled_by_1_Kernel.Facts) (hPre_rolled_by_2_Kernel : Cert.Pre_rolled_by_2_Kernel.Facts) (hPre_rolled_by_3_Kernel : Cert.Pre_rolled_by_3_Kernel.Facts) (hPre_rolled_by_4_Kernel : Cert.Pre_rolled_by_4_Kernel.Facts) (hPre_rolled_by_5_Kernel : Cert.Pre_rolled_by_5_Kernel.Facts) (hPre_rolled_by_6_Kernel : Cert.Pre_rolled_by_6_Kernel.Facts) (hPre_rolled_by_7_Kernel : Cert.Pre_rolled_by_7_Kernel.Facts) (hPre_rolled_by_1_ReferenceIdeal : Cert.Pre_rolled_by_1_ReferenceIdeal.Facts) (hPre_rolled_by_2_ReferenceIdeal : Cert.Pre_rolled_by_2_ReferenceIdeal.Facts) (hPre_rolled_by_3_ReferenceIdeal : Cert.Pre_rolled_by_3_ReferenceIdeal.Facts) (hPre_rolled_by_4_ReferenceIdeal : Cert.Pre_rolled_by_4_ReferenceIdeal.Facts) (hPre_rolled_by_5_ReferenceIdeal : Cert.Pre_rolled_by_5_ReferenceIdeal.Facts) (hPre_rolled_by_6_ReferenceIdeal : Cert.Pre_rolled_by_6_ReferenceIdeal.Facts) (hPre_rolled_by_7_ReferenceIdeal : Cert.Pre_rolled_by_7_ReferenceIdeal.Facts),
    quiescent_Kernel (hKernel := hKernel) (hPre_rolled_by_1_Kernel := hPre_rolled_by_1_Kernel)
    ∧ quiescent_Kernel_pre_rolled_by_2_Kernel (hKernel := hKernel) (hPre_rolled_by_2_Kernel := hPre_rolled_by_2_Kernel)
    ∧ quiescent_Kernel_pre_rolled_by_3_Kernel (hKernel := hKernel) (hPre_rolled_by_3_Kernel := hPre_rolled_by_3_Kernel)
    ∧ quiescent_Kernel_pre_rolled_by_4_Kernel (hKernel := hKernel) (hPre_rolled_by_4_Kernel := hPre_rolled_by_4_Kernel)
    ∧ quiescent_Kernel_pre_rolled_by_5_Kernel (hKernel := hKernel) (hPre_rolled_by_5_Kernel := hPre_rolled_by_5_Kernel)
    ∧ quiescent_Kernel_pre_rolled_by_6_Kernel (hKernel := hKernel) (hPre_rolled_by_6_Kernel := hPre_rolled_by_6_Kernel)
    ∧ quiescent_Kernel_pre_rolled_by_7_Kernel (hKernel := hKernel) (hPre_rolled_by_7_Kernel := hPre_rolled_by_7_Kernel)
    ∧ quiescent_KernelIdeal (hKernelIdeal := hKernelIdeal) (hPre_rolled_by_1_Kernel := hPre_rolled_by_1_Kernel)
    ∧ quiescent_KernelIdeal_pre_rolled_by_2_Kernel (hKernelIdeal := hKernelIdeal) (hPre_rolled_by_2_Kernel := hPre_rolled_by_2_Kernel)
    ∧ quiescent_KernelIdeal_pre_rolled_by_3_Kernel (hKernelIdeal := hKernelIdeal) (hPre_rolled_by_3_Kernel := hPre_rolled_by_3_Kernel)
    ∧ quiescent_KernelIdeal_pre_rolled_by_4_Kernel (hKernelIdeal := hKernelIdeal) (hPre_rolled_by_4_Kernel := hPre_rolled_by_4_Kernel)
    ∧ quiescent_KernelIdeal_pre_rolled_by_5_Kernel (hKernelIdeal := hKernelIdeal) (hPre_rolled_by_5_Kernel := hPre_rolled_by_5_Kernel)
    ∧ quiescent_KernelIdeal_pre_rolled_by_6_Kernel (hKernelIdeal := hKernelIdeal) (hPre_rolled_by_6_Kernel := hPre_rolled_by_6_Kernel)
    ∧ quiescent_KernelIdeal_pre_rolled_by_7_Kernel (hKernelIdeal := hKernelIdeal) (hPre_rolled_by_7_Kernel := hPre_rolled_by_7_Kernel)
    ∧ quiescent_ReferenceIdeal (hReferenceIdeal := hReferenceIdeal)
    ∧ quiescent_ReferenceIdeal_pre_rolled_by_1_ReferenceIdeal (hReferenceIdeal := hReferenceIdeal) (hPre_rolled_by_1_ReferenceIdeal := hPre_rolled_by_1_ReferenceIdeal)
    ∧ quiescent_ReferenceIdeal_pre_rolled_by_2_ReferenceIdeal (hReferenceIdeal := hReferenceIdeal) (hPre_rolled_by_2_ReferenceIdeal := hPre_rolled_by_2_ReferenceIdeal)
    ∧ quiescent_ReferenceIdeal_pre_rolled_by_3_ReferenceIdeal (hReferenceIdeal := hReferenceIdeal) (hPre_rolled_by_3_ReferenceIdeal := hPre_rolled_by_3_ReferenceIdeal)
    ∧ quiescent_ReferenceIdeal_pre_rolled_by_4_ReferenceIdeal (hReferenceIdeal := hReferenceIdeal) (hPre_rolled_by_4_ReferenceIdeal := hPre_rolled_by_4_ReferenceIdeal)
    ∧ quiescent_ReferenceIdeal_pre_rolled_by_5_ReferenceIdeal (hReferenceIdeal := hReferenceIdeal) (hPre_rolled_by_5_ReferenceIdeal := hPre_rolled_by_5_ReferenceIdeal)
    ∧ quiescent_ReferenceIdeal_pre_rolled_by_6_ReferenceIdeal (hReferenceIdeal := hReferenceIdeal) (hPre_rolled_by_6_ReferenceIdeal := hPre_rolled_by_6_ReferenceIdeal)
    ∧ quiescent_ReferenceIdeal_pre_rolled_by_7_ReferenceIdeal (hReferenceIdeal := hReferenceIdeal) (hPre_rolled_by_7_ReferenceIdeal := hPre_rolled_by_7_ReferenceIdeal)
    ∧ preserves_Kernel_KernelIdeal
    ∧ algebraic_KernelIdeal_ReferenceIdeal (hKernelIdeal := hKernelIdeal) (hReferenceIdeal := hReferenceIdeal) (hPre_rolled_by_1_Kernel := hPre_rolled_by_1_Kernel)
    ∧ algebraic_KernelIdeal_ReferenceIdeal_pre_rolled_by_2_Kernel (hKernelIdeal := hKernelIdeal) (hReferenceIdeal := hReferenceIdeal) (hPre_rolled_by_2_Kernel := hPre_rolled_by_2_Kernel)
    ∧ algebraic_KernelIdeal_ReferenceIdeal_pre_rolled_by_3_Kernel (hKernelIdeal := hKernelIdeal) (hReferenceIdeal := hReferenceIdeal) (hPre_rolled_by_3_Kernel := hPre_rolled_by_3_Kernel)
    ∧ algebraic_KernelIdeal_ReferenceIdeal_pre_rolled_by_4_Kernel (hKernelIdeal := hKernelIdeal) (hReferenceIdeal := hReferenceIdeal) (hPre_rolled_by_4_Kernel := hPre_rolled_by_4_Kernel)
    ∧ algebraic_KernelIdeal_ReferenceIdeal_pre_rolled_by_5_Kernel (hKernelIdeal := hKernelIdeal) (hReferenceIdeal := hReferenceIdeal) (hPre_rolled_by_5_Kernel := hPre_rolled_by_5_Kernel)
    ∧ algebraic_KernelIdeal_ReferenceIdeal_pre_rolled_by_6_Kernel (hKernelIdeal := hKernelIdeal) (hReferenceIdeal := hReferenceIdeal) (hPre_rolled_by_6_Kernel := hPre_rolled_by_6_Kernel)
    ∧ algebraic_KernelIdeal_ReferenceIdeal_pre_rolled_by_7_Kernel (hKernelIdeal := hKernelIdeal) (hReferenceIdeal := hReferenceIdeal) (hPre_rolled_by_7_Kernel := hPre_rolled_by_7_Kernel)
-- ==== Pre_rolled_by_1_Kernel.lean ====
abbrev S1x2048x1024 : Shape := ⟨3, ![1, 2048, 1024]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S1x2048x1024 .f32) (main_arg1 : IVec S8 32) : IVec S8 1 :=
  let main_v0 : IVec S8 32 := iotaInDim S8 32 0
  let main_c : IVec S_ 32 := constantI S_ 32 7#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_rolled_by_1_ReferenceIdeal.lean ====
abbrev S8x2048x1024 : Shape := ⟨3, ![8, 2048, 1024]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S8x2048x1024 .f32) (main_arg1 : IVec S8 32) : IVec S8 1 :=
  let main_v0 : IVec S8 32 := iotaInDim S8 32 0
  let main_c : IVec S_ 32 := constantI S_ 32 7#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_rolled_by_2_Kernel.lean ====
abbrev S1x2048x1024 : Shape := ⟨3, ![1, 2048, 1024]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S1x2048x1024 .f32) (main_arg1 : IVec S8 32) : IVec S8 1 :=
  let main_v0 : IVec S8 32 := iotaInDim S8 32 0
  let main_c : IVec S_ 32 := constantI S_ 32 6#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_rolled_by_2_ReferenceIdeal.lean ====
abbrev S8x2048x1024 : Shape := ⟨3, ![8, 2048, 1024]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S8x2048x1024 .f32) (main_arg1 : IVec S8 32) : IVec S8 1 :=
  let main_v0 : IVec S8 32 := iotaInDim S8 32 0
  let main_c : IVec S_ 32 := constantI S_ 32 6#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_rolled_by_3_Kernel.lean ====
abbrev S1x2048x1024 : Shape := ⟨3, ![1, 2048, 1024]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S1x2048x1024 .f32) (main_arg1 : IVec S8 32) : IVec S8 1 :=
  let main_v0 : IVec S8 32 := iotaInDim S8 32 0
  let main_c : IVec S_ 32 := constantI S_ 32 5#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_rolled_by_3_ReferenceIdeal.lean ====
abbrev S8x2048x1024 : Shape := ⟨3, ![8, 2048, 1024]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S8x2048x1024 .f32) (main_arg1 : IVec S8 32) : IVec S8 1 :=
  let main_v0 : IVec S8 32 := iotaInDim S8 32 0
  let main_c : IVec S_ 32 := constantI S_ 32 5#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_rolled_by_4_Kernel.lean ====
abbrev S1x2048x1024 : Shape := ⟨3, ![1, 2048, 1024]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S1x2048x1024 .f32) (main_arg1 : IVec S8 32) : IVec S8 1 :=
  let main_v0 : IVec S8 32 := iotaInDim S8 32 0
  let main_c : IVec S_ 32 := constantI S_ 32 4#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_rolled_by_4_ReferenceIdeal.lean ====
abbrev S8x2048x1024 : Shape := ⟨3, ![8, 2048, 1024]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S8x2048x1024 .f32) (main_arg1 : IVec S8 32) : IVec S8 1 :=
  let main_v0 : IVec S8 32 := iotaInDim S8 32 0
  let main_c : IVec S_ 32 := constantI S_ 32 4#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_rolled_by_5_Kernel.lean ====
abbrev S1x2048x1024 : Shape := ⟨3, ![1, 2048, 1024]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S1x2048x1024 .f32) (main_arg1 : IVec S8 32) : IVec S8 1 :=
  let main_v0 : IVec S8 32 := iotaInDim S8 32 0
  let main_c : IVec S_ 32 := constantI S_ 32 3#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_rolled_by_5_ReferenceIdeal.lean ====
abbrev S8x2048x1024 : Shape := ⟨3, ![8, 2048, 1024]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S8x2048x1024 .f32) (main_arg1 : IVec S8 32) : IVec S8 1 :=
  let main_v0 : IVec S8 32 := iotaInDim S8 32 0
  let main_c : IVec S_ 32 := constantI S_ 32 3#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_rolled_by_6_Kernel.lean ====
abbrev S1x2048x1024 : Shape := ⟨3, ![1, 2048, 1024]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S1x2048x1024 .f32) (main_arg1 : IVec S8 32) : IVec S8 1 :=
  let main_v0 : IVec S8 32 := iotaInDim S8 32 0
  let main_c : IVec S_ 32 := constantI S_ 32 2#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_rolled_by_6_ReferenceIdeal.lean ====
abbrev S8x2048x1024 : Shape := ⟨3, ![8, 2048, 1024]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S8x2048x1024 .f32) (main_arg1 : IVec S8 32) : IVec S8 1 :=
  let main_v0 : IVec S8 32 := iotaInDim S8 32 0
  let main_c : IVec S_ 32 := constantI S_ 32 2#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_rolled_by_7_Kernel.lean ====
abbrev S1x2048x1024 : Shape := ⟨3, ![1, 2048, 1024]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S1x2048x1024 .f32) (main_arg1 : IVec S8 32) : IVec S8 1 :=
  let main_v0 : IVec S8 32 := iotaInDim S8 32 0
  let main_c : IVec S_ 32 := constantI S_ 32 1#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_rolled_by_7_ReferenceIdeal.lean ====
abbrev S8x2048x1024 : Shape := ⟨3, ![8, 2048, 1024]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S8x2048x1024 .f32) (main_arg1 : IVec S8 32) : IVec S8 1 :=
  let main_v0 : IVec S8 32 := iotaInDim S8 32 0
  let main_c : IVec S_ 32 := constantI S_ 32 1#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Kernel.lean ====
abbrev S1x2048x1024 : Shape := ⟨3, ![1, 2048, 1024]⟩
abbrev S8 : Shape := ⟨1, ![8]⟩
abbrev S_ : Shape := ⟨0, ![]⟩
abbrev S1 : Shape := ⟨1, ![1]⟩

abbrev nBuf : Space → Nat
  | .hbm => 3
  | .vmem => 2
  | .smem => 1
  | _ => 0

abbrev bufTy : (tb : Table) → Fin (tcTables nBuf tb) → BufTy
  | .hbm, ⟨0, _⟩ => ⟨S1x2048x1024, .f32⟩
  | .hbm, ⟨1, _⟩ => ⟨S8, .i32⟩
  | .hbm, ⟨2, _⟩ => ⟨S1x2048x1024, .f32⟩
  | .local _ .vmem, ⟨0, _⟩ => ⟨S1x2048x1024, .f32⟩
  | .local _ .vmem, ⟨1, _⟩ => ⟨S1x2048x1024, .f32⟩
  | .local _ .smem, ⟨0, _⟩ => ⟨S8, .i32⟩
  | _, _ => ⟨S1x2048x1024, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg2_0 : Ref sig .tc := ⟨.vmem, 1, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : Index := Scalar.indexCast v2
  ![v3.toNat]
def k0_dev1 (d0 : Dev nD) (v5 : BitVec 32) (v8 : BitVec 32) (v11 : BitVec 32) (v14 : BitVec 32) (v17 : BitVec 32) (v20 : BitVec 32) (v23 : BitVec 32) (v26 : BitVec 32) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v27 : BitVec 1 := Scalar.cmpi .eq v26 v2
  let c7_i32 : BitVec 32 := 7#32
  let v24 : BitVec 1 := Scalar.cmpi .eq v23 v2
  let c6_i32 : BitVec 32 := 6#32
  let v21 : BitVec 1 := Scalar.cmpi .eq v20 v2
  let c5_i32 : BitVec 32 := 5#32
  let v18 : BitVec 1 := Scalar.cmpi .eq v17 v2
  let c4_i32 : BitVec 32 := 4#32
  let v15 : BitVec 1 := Scalar.cmpi .eq v14 v2
  let c3_i32 : BitVec 32 := 3#32
  let v12 : BitVec 1 := Scalar.cmpi .eq v11 v2
  let c2_i32 : BitVec 32 := 2#32
  let v9 : BitVec 1 := Scalar.cmpi .eq v8 v2
  let c1_i32_1 : BitVec 32 := 1#32
  let v6 : BitVec 1 := Scalar.cmpi .eq v5 v2
  let c0_i32 : BitVec 32 := 0#32
  let c0_i32_0 : BitVec 32 := 0#32
  let v7 : BitVec 32 := Scalar.select v6 c0_i32 c0_i32_0
  let v10 : BitVec 32 := Scalar.select v9 c1_i32_1 v7
  let v13 : BitVec 32 := Scalar.select v12 c2_i32 v10
  let v16 : BitVec 32 := Scalar.select v15 c3_i32 v13
  let v19 : BitVec 32 := Scalar.select v18 c4_i32 v16
  let v22 : BitVec 32 := Scalar.select v21 c5_i32 v19
  let v25 : BitVec 32 := Scalar.select v24 c6_i32 v22
  let v28 : BitVec 32 := Scalar.select v27 c7_i32 v25
  v28.toNat

def k0_chk1 (d0 : Dev nD) (v5 : BitVec 32) (v8 : BitVec 32) (v11 : BitVec 32) (v14 : BitVec 32) (v17 : BitVec 32) (v20 : BitVec 32) (v23 : BitVec 32) (v26 : BitVec 32) : Prop :=
  ((k0_dev1 d0 v5 v8 v11 v14 v17 v20 v23 v26) < nD)
theorem k0_dev1_lt : ∀ (d0 : Dev nD) (v5 : BitVec 32) (v8 : BitVec 32) (v11 : BitVec 32) (v14 : BitVec 32) (v17 : BitVec 32) (v20 : BitVec 32) (v23 : BitVec 32) (v26 : BitVec 32) (k0_hw1 : k0_chk1 d0 v5 v8 v11 v14 v17 v20 v23 v26), (k0_dev1 d0 v5 v8 v11 v14 v17 v20 v23 v26) < nD := fun d0 v5 v8 v11 v14 v17 v20 v23 v26 k0_hw1 => k0_hw1

def k0_dev2 (v4 : BitVec 32) : Nat :=
  v4.toNat

def k0_chk2 (v4 : BitVec 32) : Prop :=
  ((k0_dev2 v4) < nD)
theorem k0_dev2_lt : ∀ (v4 : BitVec 32) (k0_hw2 : k0_chk2 v4), (k0_dev2 v4) < nD := fun v4 k0_hw2 => k0_hw2

abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8x2048x1024 : Shape := ⟨3, ![8, 2048, 1024]⟩
abbrev S8 : Shape := ⟨1, ![8]⟩
abbrev S_ : Shape := ⟨0, ![]⟩
abbrev S8x1 : Shape := ⟨2, ![8, 1]⟩

abbrev nBuf : Space → Nat
  | .hbm => 14
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8, .i32⟩
  | .hbm, ⟨2, _⟩ => ⟨S8, .i32⟩
  | .hbm, ⟨3, _⟩ => ⟨S8, .i32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i1⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S8, .i32⟩
  | .hbm, ⟨12, _⟩ => ⟨S8x1, .i32⟩
  | .hbm, ⟨13, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Table.lean ====
/-
# The table of destinations, and what the kernel computes from it

A table of eight words NAMES a permutation `σ` of the devices when word `k` is `σ k`. From such a table device `c`
computes two devices: where its block goes (word `c`, that is `σ c`) and whose block it receives (the last `k` whose word
is `c`, found by a chain of selects: `σ.symm c`).
-/
module

public import proofs.«01_k».proof.Proof.Gen.KernelIdeal

@[expose] public section

noncomputable section

namespace Cert.Permute

open Idealize.ShloMosaic Idealize.ShloMosaic.TcCoe
open Cert.KernelIdeal Cert.KernelIdeal.Gen

/-- Index `k` of an eight-word table. -/
def at8 (k : Dev nD) : S8.Idx := fun a => ⟨k.val, by fin_cases a; exact k.isLt⟩

theorem at8_eq (i : S8.Idx) : at8 ⟨(i 0).val, (i 0).isLt⟩ = i := funext fun a => by fin_cases a; rfl

/-- The table `t` names the permutation `σ`: word `k` is `σ k`. -/
def Names (t : S8.Idx → BitVec 32) (σ : Equiv.Perm (Dev nD)) : Prop := ∀ k, t (at8 k) = BitVec.ofNat 32 (σ k).val

/-- A device's number as a word, read back. -/
theorem word_toNat (d : Dev nD) : (BitVec.ofNat 32 d.val).toNat = d.val := by revert d; decide

/-- The kernel's name for the device it runs on: its number, divided by 1, modulo 8. -/
theorem self_word (c : Dev nD) : Scalar.remsi (Scalar.divsi (Dev.word c) 1#32) 8#32 = BitVec.ofNat 32 c.val := by
  revert c; decide

/-- The comparison of two devices' words, as a bit. -/
theorem cmp_word (a b : Dev nD) :
    Scalar.cmpi .eq (BitVec.ofNat 32 a.val) (BitVec.ofNat 32 b.val) = if a = b then 1#1 else 0#1 := by
  revert a b; decide

/-- The chain of selects over the outcomes of the eight comparisons. -/
def chain (b : Fin 8 → BitVec 1) : BitVec 32 :=
  Scalar.select (b 7) 7#32 (Scalar.select (b 6) 6#32 (Scalar.select (b 5) 5#32 (Scalar.select (b 4) 4#32
    (Scalar.select (b 3) 3#32 (Scalar.select (b 2) 2#32 (Scalar.select (b 1) 1#32 (Scalar.select (b 0) 0#32 0#32)))))))

/-- When one comparison holds, the chain gives its number. -/
theorem chain_one (j : Fin 8) : (chain fun k => if k = j then 1#1 else 0#1).toNat = j.val := by
  revert j; decide

variable (σ : Equiv.Perm (Dev nD))

/-- The word of the table at the device's own number names where its block goes. -/
theorem target_ok (w : BitVec 32) (c : Dev nD) (hw : w = BitVec.ofNat 32 (σ c).val) : k0_chk2 w := by
  subst hw; show (BitVec.ofNat 32 (σ c).val).toNat < nD; rw [word_toNat]; exact (σ c).isLt

theorem target_eq (w : BitVec 32) (c : Dev nD) (hw : w = BitVec.ofNat 32 (σ c).val) (h : k0_chk2 w) :
    (⟨k0_dev2 w, k0_dev2_lt w h⟩ : Dev nD) = σ c := by
  subst hw; exact Fin.ext (word_toNat (σ c))

/-- The device the kernel signals is the one whose block it will receive. -/
theorem source_eq (c : Dev nD) (w : Dev nD → BitVec 32) (hw : ∀ k, w k = BitVec.ofNat 32 (σ k).val)
    (h : k0_chk1 c (w 0) (w 1) (w 2) (w 3) (w 4) (w 5) (w 6) (w 7)) :
    (⟨k0_dev1 c (w 0) (w 1) (w 2) (w 3) (w 4) (w 5) (w 6) (w 7), k0_dev1_lt _ _ _ _ _ _ _ _ _ h⟩ : Dev nD) = σ.symm c := by
  apply Fin.ext
  show (chain fun k => Scalar.cmpi .eq (w k) (Scalar.remsi (Scalar.divsi (Dev.word c) 1#32) 8#32)).toNat = (σ.symm c).val
  have e : (fun k : Fin 8 => Scalar.cmpi .eq (w k) (Scalar.remsi (Scalar.divsi (Dev.word c) 1#32) 8#32))
      = fun k => if k = σ.symm c then 1#1 else 0#1 := funext fun k => by
    rw [self_word, hw k, cmp_word]
    by_cases hk : σ k = c
    · rw [if_pos hk, if_pos (by rw [← hk, Equiv.symm_apply_apply])]
    · rw [if_neg hk, if_neg (fun h' => hk (by rw [h', Equiv.apply_symm_apply]))]
  rw [e]
  exact chain_one (σ.symm c)

end Cert.Permute

end
-- ==== Proof.Protocol.lean ====
/-
# The protocol of the exchange

Three semaphores a device, each used for one round of one payment:

* the BARRIER of device `c` is paid one unit by `σ c`, the device that `c` sends to; with it `σ c` hands over its landing
  buffer, so that `c` may write there;
* the RECEIVE semaphore of `c` is paid the block's credit by the copy of `σ.symm c`, the device `c` receives from; with it
  comes the landing buffer again, holding that device's block;
* the SEND semaphore of `c` is paid the same credit by the copy of `c` itself; with it comes the buffer the copy read.

The schedule, what each device owes at the start, the order in which the payments may be waited for, and the proof data
of the one staged region.
-/
module

public import proofs.«01_k».proof.Proof.Table
public import proofs.«01_k».proof.Proof.Gen.KernelIdeal.Skeleton
public import proofs.«01_k».proof.Proof.Gen.KernelIdeal.Launch
public import Idealize.ShloMosaic.Lib.Rounds
public import Idealize.ShloMosaic.Lib.Pipeline.Launch
public import Idealize.ShloMosaic.Lib.Pipeline.Kit
public import Idealize.ShloMosaic.Lib.Tactic

@[expose] public section

noncomputable section

namespace Cert.Permute

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

/-- The ghost state: the staging's rounds and the exchange's. -/
abbrev Ghost : Type := UR sig nD τ × URounds (GSem nD τ sig) Unit

local notation "𝕄" => MT nD τ sig Unit (Elt F) ℕ Ghost ℕ

abbrev EStage : Emb (UR sig nD τ) (MT nD τ sig Unit (Elt F) ℕ Ghost ℕ) := embL
abbrev EX : Emb (URounds (GSem nD τ sig) Unit) (MT nD τ sig Unit (Elt F) ℕ Ghost ℕ) := embR

/-! ## The buffers and the semaphores -/

abbrev inM : Memref sig .tc .vmem S1x2048x1024 .f32 := Memref.whole cc0_stg0_0
abbrev tabM : Memref sig .tc .smem S8 .i32 := Memref.whole cc0_stg1_0
abbrev outM : Memref sig .tc .vmem S1x2048x1024 .f32 := Memref.whole cc0_stg2_0

abbrev barS : Sem sig := (SemArray.scalar (sig.barrier 0 rfl) : Sems sig S_).sem
abbrev sendS : DmaSem sig := (cc0_scratch0 : DmaSems sig S_).sem
abbrev recvS : DmaSem sig := (cc0_scratch1 : DmaSems sig S_).sem

/-- The three semaphores of a device, by number. -/
abbrev semOf : Fin 3 → SemLoc sig := fun | 0 => .reg barS | 1 => .dma sendS | 2 => .dma recvS

/-- The cell of semaphore `p.2` on device `p.1`. -/
abbrev cell (p : Dev nD × Fin 3) : GSem nD τ sig := ((p.1 : Thread nD τ), semOf p.2)

theorem semOf_injective : Function.Injective semOf := by
  intro j k h
  fin_cases j <;> fin_cases k <;> first | rfl | exact absurd h (by decide)

theorem cell_injective : Function.Injective cell := fun ⟨c, j⟩ ⟨d, k⟩ h => by
  have hc : c = d := congrArg (fun g : GSem nD τ sig => g.1.1) h
  have hk : j = k := semOf_injective (congrArg Prod.snd h)
  rw [hc, hk]

omit [FloatOps F] in
/-- What is had of the three, one by one. -/
theorem three (Φ : Fin 3 → sProp 𝕄) : bigSep Finset.univ Φ = iprop(Φ 0 ∗ Φ 1 ∗ Φ 2) :=
  bigSep_univ_eq_bigSepL [0, 1, 2] (by decide) (by decide) Φ

/-- The credit of one block's copy. -/
abbrev credit : ℕ := (outM : Memref sig .tc .vmem S1x2048x1024 .f32).view.dmaCredit

/-- The block read is of the same credit as the block written. -/
theorem credit_in : (inM : Memref sig .tc .vmem S1x2048x1024 .f32).view.dmaCredit = credit := rfl

theorem credit_pos : 0 < credit := View.dmaCredit_pos _ (by decide)

/-! ## The contents -/

variable (m : (ℓ : Loc nD τ sig) → Buf (Elt F) ℓ) (ρ : Dev nD → PrngReg) (σ : Equiv.Perm (Dev nD))

/-- The memory at the start: any contents, every counter zero. -/
def mem₀ : MemSt nD τ sig (Elt F) := ⟨m, fun _ => 0, ρ⟩

/-- Device `c`'s block of `x` and its table, as staged. -/
def blockOf (c : Dev nD) : (cc0_stg0_0 : Ref sig .tc).ty.Contents (Elt F) :=
  (win0_0.blk (0 : Fin 1)).view.read (Elt F) ((mem₀ m ρ).mem ((c : Thread nD τ).loc main_arg0))
def tableOf (c : Dev nD) : (cc0_stg1_0 : Ref sig .tc).ty.Contents (Elt F) :=
  (win0_1.blk (0 : Fin 1)).view.read (Elt F) ((mem₀ m ρ).mem ((c : Thread nD τ).loc main_arg1))

/-- What lands on device `c`. -/
def landedOn (c : Dev nD) : (cc0_stg2_0 : Ref sig .tc).ty.Contents (Elt F) := blockOf m ρ (σ.symm c)

/-- Device `c`'s staged block, held for a copy to read; its landing buffer, held for a copy to write. -/
def inPts (c : Dev nD) : sProp 𝕄 := inM.view.loc (c : Thread nD τ) ↦[inM.view.set]{fullShare} blockOf m ρ c
def outPts (c : Dev nD) (f : Buf (Elt F) (outM.view.loc (c : Thread nD τ))) : sProp 𝕄 :=
  outM.view.loc (c : Thread nD τ) ↦[outM.view.set]{fullShare} f

omit [FloatOps F] in
instance inPts_storable (c : Dev nD) : BI.Storable (upEmb : UEmb _ 𝕄) (inPts (F := F) m ρ c) := by
  unfold inPts; infer_instance
omit [FloatOps F] in
instance outPts_storable (c : Dev nD) (f) : BI.Storable (upEmb : UEmb _ 𝕄) (outPts (F := F) c f) := by
  unfold outPts; infer_instance

omit [FloatOps F] in
theorem inPts_eq (c : Dev nD) :
    inPts m ρ c = (((c : Thread nD τ).loc cc0_stg0_0) ↦{fullShare} blockOf m ρ c : sProp 𝕄) := by
  unfold inPts; rw [View.set_whole]
omit [FloatOps F] in
theorem outPts_eq (c : Dev nD) (f : Buf (Elt F) ((c : Thread nD τ).loc cc0_stg2_0)) :
    outPts c f = (((c : Thread nD τ).loc cc0_stg2_0) ↦{fullShare} f : sProp 𝕄) := by
  unfold outPts; rw [View.set_whole]

omit [FloatOps F] in
/-- A copy of a whole buffer onto a whole buffer leaves what it read. -/
theorem copy_eq (c : Dev nD) (fd : Buf (Elt F) (outM.view.loc (c : Thread nD τ)))
    (fs : (cc0_stg0_0 : Ref sig .tc).ty.Contents (Elt F)) :
    outM.view.write (Elt F) fd (inM.view.read (Elt F) fs) Finset.univ = fs := by
  show (View.whole cc0_stg2_0).write (Elt F) fd ((View.whole cc0_stg0_0).read (Elt F) fs) Finset.univ = fs
  rw [View.read_whole]
  exact View.write_whole_univ _ _ _

/-! ## The schedule -/

/-- What comes with the payment on semaphore `s` of device `c`. -/
def handed (c : Dev nD) (s : SemLoc sig) : sProp 𝕄 :=
  if s = semOf 0 then iprop(∃ f, outPts (σ c) f)
  else if s = semOf 1 then inPts m ρ c
  else if s = semOf 2 then outPts c (landedOn m ρ σ c)
  else iprop(emp)

def plan : Rounds.Schedule (GSem nD τ sig) Unit 𝕄 where
  duties g r := if r = 0 ∧ g.1.2 = .tc ∧ ∃ k, g.2 = semOf k then {()} else ∅
  unitless _ := False
  amount g _ _ := if g.2 = semOf 0 then 1 else credit
  payload g _ _ := handed m ρ σ g.1.1 g.2
  amount_pos g _ _ _ := by
    split
    · exact Nat.one_pos
    · exact credit_pos

instance plan_storable (g : GSem nD τ sig) (r : ℕ) (d : Unit) :
    BI.Storable (upEmb : UEmb _ 𝕄) ((plan (F := F) m ρ σ).payload g r d) := by
  show BI.Storable upEmb (handed m ρ σ g.1.1 g.2)
  unfold handed
  (repeat' split) <;> infer_instance

omit [FloatOps F] in
theorem duties_cell (p : Dev nD × Fin 3) : (plan (F := F) m ρ σ).duties (cell p) 0 = {()} := by
  dsimp only [plan]; exact if_pos ⟨rfl, rfl, p.2, rfl⟩
omit [FloatOps F] in
theorem mem_duties (p : Dev nD × Fin 3) : () ∈ (plan (F := F) m ρ σ).duties (cell p) 0 := by
  rw [duties_cell]; exact Finset.mem_singleton_self _
omit [FloatOps F] in
theorem duties_later (g : GSem nD τ sig) : ∀ r, 1 ≤ r → (plan (F := F) m ρ σ).duties g r = ∅ := fun r hr => by
  dsimp only [plan]; exact if_neg fun h => by omega

omit [FloatOps F] in
theorem amount_bar (c : Dev nD) : (plan (F := F) m ρ σ).amount (cell (c, 0)) 0 () = 1 := by
  dsimp only [plan]; exact if_pos rfl
omit [FloatOps F] in
theorem amount_copy (c : Dev nD) (k : Fin 3) (hk : k ≠ 0) : (plan (F := F) m ρ σ).amount (cell (c, k)) 0 () = credit := by
  dsimp only [plan]; exact if_neg fun h => hk (semOf_injective h)

omit [FloatOps F] in
/-- A cell's round expects its one payment, -/
theorem expect_cell (p : Dev nD × Fin 3) :
    (plan (F := F) m ρ σ).expect (cell p) 0 = (plan (F := F) m ρ σ).amount (cell p) 0 () := by
  unfold Schedule.expect Schedule.amountOf; rw [duties_cell, Finset.sum_singleton]
omit [FloatOps F] in
/-- and whoever waits for it gets what comes with that payment. -/
theorem rest_cell (p : Dev nD × Fin 3) :
    bigSep ((plan (F := F) m ρ σ).duties (cell p) 0 \ ∅) (fun d => (plan (F := F) m ρ σ).payload (cell p) 0 d)
      = handed m ρ σ p.1 (semOf p.2) := by
  rw [Finset.sdiff_empty, duties_cell, bigSep_singleton]; rfl

omit [FloatOps F] in
theorem handed_bar (c : Dev nD) : (handed (F := F) m ρ σ c (semOf 0)) = iprop(∃ f, outPts (σ c) f) := by
  unfold handed; exact if_pos rfl
omit [FloatOps F] in
theorem handed_send (c : Dev nD) : (handed (F := F) m ρ σ c (semOf 1)) = inPts m ρ c := by
  unfold handed; rw [if_neg (by decide), if_pos rfl]
omit [FloatOps F] in
theorem handed_recv (c : Dev nD) : (handed (F := F) m ρ σ c (semOf 2)) = outPts c (landedOn m ρ σ c) := by
  unfold handed; rw [if_neg (by decide), if_neg (by decide), if_pos rfl]

/-! ## What a device owes, and in which order payments are waited for -/

/-- Device `c` owes the credit of its copy, and one unit to the device it receives from. -/
def owedCopy (c : Dev nD) : CellTallies nD τ sig Unit := tallyAt (cell (σ c, 2)) () credit
def owed₀ (c : Dev nD) : CellTallies nD τ sig Unit := owedCopy σ c + tallyAt (cell (σ.symm c, 0)) () 1

/-- Barriers come before receive semaphores; the staging and the send semaphores before both. -/
def kinds (g : GSem nD τ sig) : Finset Unit := if g.1.2 = .tc then {()} else ∅
def rank (g : GSem nD τ sig) (_ : Unit) : ℕ := if g.2 = semOf 0 then 1 else if g.2 = semOf 2 then 2 else 0

theorem kinds_of_ne (g : GSem nD τ sig) (h : g.1.2 ≠ .tc) : kinds g = ∅ := if_neg h
theorem mem_kinds (c : Dev nD) (s : SemLoc sig) (u : Unit) : u ∈ kinds ((c : Thread nD τ), s) := by
  unfold kinds; rw [if_pos rfl]; exact Finset.mem_singleton_self _

theorem rank_bar (c : Dev nD) (u : Unit) : rank (cell (c, 0)) u = 1 := by unfold rank; exact if_pos rfl
theorem rank_recv (c : Dev nD) (u : Unit) : rank (cell (c, 2)) u = 2 := by
  unfold rank; rw [if_neg (show ¬ semOf 2 = semOf 0 by decide), if_pos rfl]

theorem pos_of_tally {g h : GSem nD τ sig} {u : Unit} {n : ℕ} (hp : 0 < (tallyAt h () n : CellTallies nD τ sig Unit) g u) :
    g = h := by
  rw [tallyAt_apply] at hp
  by_contra hn
  rw [if_neg fun h' => hn h'.1] at hp
  exact Nat.lt_irrefl 0 hp

theorem owed₀_pos {c : Dev nD} {g : GSem nD τ sig} {u : Unit} (h : 0 < owed₀ σ c g u) :
    g = cell (σ c, 2) ∨ g = cell (σ.symm c, 0) := by
  unfold owed₀ owedCopy at h
  rw [Pi.add_apply, Finsupp.add_apply] at h
  rcases Nat.eq_zero_or_pos ((tallyAt (cell (σ c, 2)) () credit : CellTallies nD τ sig Unit) g u) with h0 | h0
  · rw [h0, Nat.zero_add] at h; exact Or.inr (pos_of_tally h)
  · exact Or.inl (pos_of_tally h0)

omit [FloatOps F] in
/-- The staging's waits come before everything a device owes. -/
theorem wait_staging (c : Dev nD) (q : DmaSem sig) (hq : SemLoc.dma q ≠ .dma recvS) (O : CellTallies nD τ sig Unit)
    (hO : O = owed₀ σ c ∨ O = 0) : (levAts kinds rank : sProp 𝕄) ⊢ MayWait (c : Thread nD τ) (.dma q) () O := by
  rcases hO with rfl | rfl
  · refine MayOwe.of_cut (L := kinds) (lev := rank) 0
      (fun p hp => by rw [Finset.mem_singleton.mp hp]; exact mem_kinds _ _ _)
      (fun g u hg => by rcases owed₀_pos σ hg with rfl | rfl <;> exact mem_kinds _ _ _)
      (fun p hp => by
        rw [Finset.mem_singleton.mp hp]; unfold rank; rw [if_neg (fun h => by cases h), if_neg hq])
      (fun g u hg => by
        rcases owed₀_pos σ hg with rfl | rfl
        · rw [rank_recv]; decide
        · rw [rank_bar]; decide)
  · rw [MayWait_zero]; iintro -; iempintro

omit [FloatOps F] in
/-- At its barrier a device owes its copy only, which comes later. -/
theorem wait_barrier (c : Dev nD) : (levAts kinds rank : sProp 𝕄) ⊢ MayWait (c : Thread nD τ) (.reg barS) () (owedCopy σ c) :=
  MayOwe.of_cut (L := kinds) (lev := rank) 1
    (fun p hp => by rw [Finset.mem_singleton.mp hp]; exact mem_kinds _ _ _)
    (fun g u hg => by rw [pos_of_tally hg]; exact mem_kinds _ _ _)
    (fun p hp => by rw [Finset.mem_singleton.mp hp]; exact Nat.le_of_eq (rank_bar c ()))
    (fun g u hg => by rw [pos_of_tally hg, rank_recv]; decide)

/-! ## What a device starts from and ends with -/

/-- Known to all: the invariant of every cell, and that every cell is in its round. -/
def records (K : Dev nD × Fin 3 → ℕ) : sProp 𝕄 :=
  iprop((bigSep Finset.univ fun p : Dev nD × Fin 3 => cellInv EX (plan m ρ σ) (K p) (cell p))
    ∗ bigSep Finset.univ fun p : Dev nD × Fin 3 => reached EX (cell p) 0)

instance records_persistent (K : Dev nD × Fin 3 → ℕ) : BI.Persistent (records m ρ σ K) := by
  unfold records; infer_instance

omit [FloatOps F] in
theorem records_inv (K : Dev nD × Fin 3 → ℕ) (p : Dev nD × Fin 3) :
    records m ρ σ K ⊢ (cellInv EX (plan m ρ σ) (K p) (cell p) : sProp 𝕄) := by
  have h : (bigSep Finset.univ fun q : Dev nD × Fin 3 => (cellInv EX (plan m ρ σ) (K q) (cell q) : sProp 𝕄))
      ⊢ cellInv EX (plan m ρ σ) (K p) (cell p) := bigSep_elim (Finset.mem_univ p)
  unfold records
  iintro ⟨H, -⟩
  iapply h
  iexact H
omit [FloatOps F] in
theorem records_reached (K : Dev nD × Fin 3 → ℕ) (p : Dev nD × Fin 3) :
    records m ρ σ K ⊢ (reached EX (cell p) 0 : sProp 𝕄) := by
  have h : (bigSep Finset.univ fun q : Dev nD × Fin 3 => (reached EX (cell q) 0 : sProp 𝕄)) ⊢ reached EX (cell p) 0 :=
    bigSep_elim (Finset.mem_univ p)
  unfold records
  iintro ⟨-, H⟩
  iapply h
  iexact H

/-- Device `c`'s own: its place in the round of its three cells, and the right to the three payments it makes. -/
def own (c : Dev nD) : sProp 𝕄 :=
  iprop((bigSep Finset.univ fun k : Fin 3 => atPos EX (cell (c, k)) 0 ∅ 0)
    ∗ dutyTok EX (cell (σ.symm c, 0)) 0 () ∗ dutyTok EX (cell (c, 1)) 0 () ∗ dutyTok EX (cell (σ c, 2)) 0 ())

def start (c : Dev nD) : sProp 𝕄 :=
  iprop((∃ K, records m ρ σ K ∗ own σ c) ∗ cred (tallyAt (cell (c, 0)) () 1) ∗ cred (tallyAt (cell (c, 2)) () credit)
    ∗ levAts kinds rank)

/-- At the end its three counters are zero. -/
def finish (c : Dev nD) : sProp 𝕄 := iprop(semVal (cell (c, 0)) 0 ∗ semVal (cell (c, 1)) 0 ∗ semVal (cell (c, 2)) 0)

/-- The region's proof data: the body leaves the operands as staged and, in the result's buffer, the block that landed. -/
def dats (_ : Fin 1) (c : Dev nD) : Dat τ (Elt F) Unit ℕ Ghost ℕ cfg0 c where
  A w := (mem₀ m ρ).mem ((cfg0.win w).arr.view.loc (c : Thread nD τ))
  after w _ := match w with
    | ⟨0, _⟩ => blockOf m ρ c
    | ⟨1, _⟩ => tableOf m ρ c
    | ⟨2, _⟩ => landedOn m ρ σ c
  Φ t := match t with
    | ⟨0, _⟩ => start m ρ σ c
    | ⟨_ + 1, _⟩ => finish (F := F) c
  q _ := fullShare
  owed t := match t with
    | ⟨0, _⟩ => owed₀ σ c
    | ⟨_ + 1, _⟩ => 0

end Cert.Permute

end
-- ==== Proof.Body.lean ====
/-
# The body on one device

The kernel's body at a symbolic device `c`, under the assumption that its table names `σ`: it reads whom to send to and
whom to signal, signals `σ.symm c` handing over its landing buffer, waits at its barrier for `σ c`'s buffer, copies its
block there, and waits for its own copy and for the one that lands on it.
-/
module

public import proofs.«01_k».proof.Proof.Protocol
public import proofs.«01_k».proof.Proof.Gen.KernelIdeal.Points

@[expose] public section

noncomputable section

namespace Cert.Permute

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ Ghost ℕ

variable (m : (ℓ : Loc nD τ sig) → Buf (Elt F) ℓ) (ρ : Dev nD → PrngReg) (σ : Equiv.Perm (Dev nD))

/-! ## The words of the table -/

/-- The first index of a block of one word. -/
abbrev one1 : S1.Idx := Shape.Idx.first (s := S1) (numel1_S1.symm ▸ Nat.one_pos)

theorem word_inb (k : Dev nD) : ∀ a, (![k.val] : Fin 1 → Nat) a + S1.size a ≤ S8.size a := by revert k; decide

omit [FloatOps F] in
/-- Loading the one word at offset `k` of the staged table reads its element `k`. -/
theorem read_word (ts : (cc0_stg1_0 : Ref sig .tc).ty.Contents (Elt F)) (k : Dev nD) (off : Fin 1 → Nat) (ho : off = ![k.val])
    (h : ∀ a, off a + S1.size a ≤ S8.size a) :
    ((tabM : Memref sig .tc .smem S8 .i32).access (Rect.unit (s := S8) off S1.size h) : View sig .tc _ _ _).read (Elt F) ts one1
      = ts (at8 k) := by
  subst ho
  refine congrArg ts (funext fun a => Fin.ext ?_)
  fin_cases a; fin_cases k <;> rfl

omit [FloatOps F] in
/-- The staged table and block are the whole arrays. -/
theorem tableOf_eq (c : Dev nD) : tableOf m ρ c = m ((c : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) _
omit [FloatOps F] in
theorem blockOf_eq (c : Dev nD) : blockOf m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- Every device's table names `σ`. -/
def AllName : Prop := ∀ c : Dev nD, Names (m ((c : Thread nD τ).loc main_arg1)) σ

/-- Word `k` of device `c`'s table, as the body loads it. -/
abbrev loaded (c k : Dev nD) : BitVec 32 :=
  ((tabM : Memref sig .tc .smem S8 .i32).access (Rect.unit (s := S8) ![k.val] S1.size (word_inb k)) : View sig .tc _ _ _).read
    (Elt F) (tableOf m ρ c) one1
/-- The word at the device's own number, as the body loads it. -/
abbrev loadedSelf (c : Dev nD) : BitVec 32 :=
  ((tabM : Memref sig .tc .smem S8 .i32).access (Rect.unit (s := S8) (k0_off1 c) S1.size (k0_off1_inb c)) : View sig .tc _ _ _).read
    (Elt F) (tableOf m ρ c) one1

variable {m σ} in
omit [FloatOps F] in
theorem AllName.loaded (h : AllName m σ) (c k : Dev nD) : loaded m ρ c k = BitVec.ofNat 32 (σ k).val := by
  unfold Permute.loaded; rw [read_word _ k _ rfl, tableOf_eq]; exact h c k
variable {m σ} in
omit [FloatOps F] in
theorem AllName.loadedSelf (h : AllName m σ) (c : Dev nD) : loadedSelf m ρ c = BitVec.ofNat 32 (σ c).val := by
  unfold Permute.loadedSelf; rw [read_word _ c _ (k0_off1_eq c), tableOf_eq]; exact h c c

/-! ## The two steps that name another device -/

abbrev 𝒱₀ : Variants := Variants.none

variable (K : Dev nD × Fin 3 → ℕ)

/-- The signal to the device that the block comes from: it pays that device's barrier, handing over the landing buffer. -/
theorem wp_signal_source (c n : Dev nD) (hn : n = σ.symm c) (W : Waits sig Unit) (f : Buf (Elt F) (outM.view.loc (c : Thread nD τ)))
    {α : Type} {Q : α → sProp 𝕄} {k : PUnit → Prog (TpuEff nD τ sig (Elt F) Λ₀ .tc) α} :
    iprop(records m ρ σ K ∗ owes (c : Thread nD τ) (owed₀ σ c) W ∗ dutyTok EX (cell (σ.symm c, 0)) 0 () ∗ outPts c f)
      ⊢ iprop((owes (c : Thread nD τ) (owedCopy σ c) W
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc n) barS ((1#32 : BitVec 32).toNat : Int)) k) Q) := by
  subst hn
  iintro ⟨#HR, HO, Ht, Hout⟩ Hk
  iapply (Rounds.wp_signal 𝒱₀ EX (plan m ρ σ) (c : Thread nD τ) none (dst := (σ.symm c : Thread nD τ)) (κ := K (σ.symm c, 0))
      (d := ()) (mem_duties m ρ σ (σ.symm c, 0)) (amount_bar m ρ σ (σ.symm c)) () (owedCopy σ c) rfl) $$ [HO Ht Hout]
  · isplitr; · iapply (records_inv m ρ σ K (σ.symm c, 0)); iexact HR
    isplitl [HO]; · iexact HO
    isplitl [Ht]; · iexact Ht
    isplitl [Hout]
    · iapply (Entails.of_eq (show _ = (plan m ρ σ).payload ((σ.symm c : Thread nD τ), SemLoc.reg barS) 0 () from
        (handed_bar m ρ σ (σ.symm c)).symm))
      rw [Equiv.apply_symm_apply]
      iexists f; iexact Hout
    · iapply (records_reached m ρ σ K (σ.symm c, 0)); iexact HR
  iexact Hk

/-- The copy to the device the table names. -/
theorem wp_copy (c n : Dev nD) (hn : n = σ c)
    {hsc : (outM : Memref sig (Dev.tc n : Thread nD τ).2.kind .vmem S1x2048x1024 .f32).view.ref.isScScratch = false}
    {hsrc : (inM : Memref sig .tc .vmem S1x2048x1024 .f32).view.WordExact} {hdst : (outM : Memref sig .tc .vmem S1x2048x1024 .f32).view.WordExact}
    {hsem : DmaTarget.Typed .vmem (.dma recvS) (.remote (Dev.tc n : Thread nD τ) (outM : Memref sig .tc .vmem S1x2048x1024 .f32) (.dma sendS) hsc)}
    {α : Type} {Q : α → sProp 𝕄} {k : PUnit → Prog (TpuEff nD τ sig (Elt F) Λ₀ .tc) α}
    (f : Buf (Elt F) (outM.view.loc (σ c : Thread nD τ))) (W : Waits sig Unit) :
    iprop(records m ρ σ K ∗ inPts m ρ c ∗ outPts (σ c) f ∗ owes (c : Thread nD τ) (owedCopy σ c) W
        ∗ dutyTok EX (cell (c, 1)) 0 () ∗ dutyTok EX (cell (σ c, 2)) 0 ())
      ⊢ iprop(((cred (tallyAt (cell (c, 1)) () credit) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma inM (.remote (Dev.tc n : Thread nD τ) outM (.dma sendS) hsc) (.dma recvS) hsrc hdst hsem) k) Q) := by
  subst hn
  iintro ⟨#HR, Hin, Hout, HO, HtS, HtR⟩
  unfold inPts outPts
  iapply (Rounds.wp_send_pointsTo 𝒱₀ EX (plan m ρ σ) (c : Thread nD τ) none (κ₁ := K (c, 1)) (κ₂ := K (σ c, 2))
    (r₁ := 0) (r₂ := 0) (d₁ := ()) (d₂ := ()) (fd := f) (mem_duties m ρ σ (c, 1)) (mem_duties m ρ σ (σ c, 2))
    () () credit rfl (amount_copy m ρ σ c 1 (by decide)) (amount_copy m ρ σ (σ c) 2 (by decide)) 0
    (show owedCopy σ c = _ by rw [zero_add]; rfl) (W := W)
    (Entails.of_eq (handed_send m ρ σ c).symm)
    (Entails.of_eq (by
      rw [copy_eq]
      refine Eq.trans ?_ (handed_recv m ρ σ (σ c)).symm
      unfold outPts landedOn; rw [Equiv.symm_apply_apply]))) $$ [Hin Hout HO HtS HtR]
  · isplitr; · iapply (records_inv m ρ σ K (c, 1)); iexact HR
    isplitr; · iapply (records_inv m ρ σ K (σ c, 2)); iexact HR
    isplitl [Hin]; · iexact Hin
    isplitl [Hout]; · iexact Hout
    isplitl [HO]; · iexact HO
    isplitl [HtS]; · iexact HtS
    isplitr; · iapply (records_reached m ρ σ K (c, 1)); iexact HR
    isplitl [HtR]; · iexact HtR
    iapply (records_reached m ρ σ K (σ c, 2)); iexact HR

/-- A wait for the one payment of a device's own cell, which is then done with: its counter is zero, and what came with
    the payment is the device's. -/
theorem wp_wait_own (c : Dev nD) (j : Fin 3) {w : TpuEff nD τ sig (Elt F) Λ₀ .tc PUnit} {n : ℕ} (a : ℕ)
    (hw : ∀ Q : PUnit → sProp 𝕄, wpE (defs₀ (F := F)) 𝒱₀ (c : Thread nD τ) none Set.univ w Q = waitSpec (c : Thread nD τ) Set.univ (semOf j) n Q)
    (hn : n = a) (ha : a = (plan (F := F) m ρ σ).amount (cell (c, j)) 0 ()) (O : CellTallies nD τ sig Unit) (W : Waits sig Unit)
    {α : Type} {Q : α → sProp 𝕄} {k : PUnit → Prog (TpuEff nD τ sig (Elt F) Λ₀ .tc) α} :
    iprop(records m ρ σ K ∗ cred (tallyAt (cell (c, j)) () a) ∗ owes (c : Thread nD τ) O W
        ∗ MayWait (c : Thread nD τ) (semOf j) () O ∗ atPos EX (cell (c, j)) 0 ∅ 0)
      ⊢ iprop(((owes (c : Thread nD τ) O (insert (semOf j, ()) W) ∗ semVal (cell (c, j)) 0 ∗ handed m ρ σ c (semOf j))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hn
  iintro ⟨#HR, Hc, HO, Hmay, Hat⟩ Hk
  ihave #HI := (records_inv m ρ σ K (c, j)) $$ HR
  iapply (Rounds.wp_wait_rest_token 𝒱₀ EX (plan m ρ σ) (c : Thread nD τ) none (κ := K (c, j)) hw (Set.mem_univ _) ()
      (O := O) (W := W) (R := 0) (m := 0) (T := ∅) (by rw [Nat.zero_add, ha]; exact (expect_cell m ρ σ (c, j)).symm))
    $$ [Hc HO Hmay Hat]
  · isplitr; · iexact HI
    isplitl [Hc]; · iexact Hc
    isplitl [HO]; · iexact HO
    isplitl [Hmay] <;> iassumption
  iintro ⟨HO, Hat, -, Hpay⟩
  imod (Rounds.cell_close EX (plan m ρ σ) (Set.mem_univ (K (c, j))) (fun h => h) (R := 0 + 1) (duties_later m ρ σ (cell (c, j)))) $$ [Hat] with Hz
  · isplitr; · iexact HI
    iexact Hat
  iapply Hk
  isplitl [HO]; · iexact HO
  isplitl [Hz]; · iexact Hz
  iapply (Entails.of_eq (rest_cell m ρ σ (c, j)))
  iexact Hpay

/-! ## The body -/

/-- A whole buffer of device `c` at known contents. -/
abbrev buf (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
theorem owns_whole (c : Dev nD) (b : Ref sig .tc) (X : b.ty.Contents (Elt F)) :
    (owns (Ix := Unit) (Name := ℕ) (U := Ghost) (Lvl := ℕ) (c : Thread nD τ) (Memref.whole b) fullShare X : sProp 𝕄)
      = buf c b X := by
  unfold owns; simp only [Memref.view_whole, View.read_whole, View.set_whole]

/-- What the body has before it runs, and after. -/
def before (c : Dev nD) : sProp 𝕄 :=
  iprop(start m ρ σ c ∗ (dats m ρ σ 0 c).owesAt () t0_0.castSucc
    ∗ (∃ d, buf c cc0_stg0_0 ((dats m ρ σ 0 c).before (0 : Fin 3) t0_0 d))
    ∗ (∃ d, buf c cc0_stg1_0 ((dats m ρ σ 0 c).before (1 : Fin 3) t0_0 d))
    ∗ (∃ d, buf c cc0_stg2_0 ((dats m ρ σ 0 c).before (2 : Fin 3) t0_0 d)))
def after (c : Dev nD) : sProp 𝕄 :=
  iprop(finish (F := F) c ∗ (dats m ρ σ 0 c).owesAt () t0_0.succ
    ∗ buf c cc0_stg0_0 (blockOf m ρ c) ∗ buf c cc0_stg1_0 (tableOf m ρ c) ∗ buf c cc0_stg2_0 (landedOn m ρ σ c))

set_option maxHeartbeats 4000000 in
/-- The body, one step at a time in program order. -/
theorem body_runs (hn : AllName m σ) (c : Dev nD) :
    before m ρ σ c
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) cc0_scratch0 cc0_scratch1) fun _ => after m ρ σ c := by
  rw [cc0_body_eq_skeleton]; unfold cc0_body_skel; rw [k0_part1_eq_skeleton]; unfold k0_part1_skel
  simp only [semSignalWord, semWaitWord, smemLoad, smemLoadElt, Prog.lift, Prog.bind_op, Prog.bind_ret, Prog.pure_eq_ret,
    Prog.bind_assoc, wp_deviceId]
  unfold before start own
  rw [three]
  iintro ⟨⟨⟨%K, #HR, ⟨HaB, HaS, HaV⟩, HtB, HtS, HtV⟩, HcB, HcV, #Hlev⟩, Ho, ⟨%d0, %g0, %hg0, Hin⟩, ⟨%d1, %g1, %hg1, Htab⟩, ⟨%d2, %g2, %hg2, Hout⟩⟩
  have e0 : g0 = blockOf m ρ c := by rw [hg0]; unfold Dat.before; rw [if_pos (fetch0_0 t0_0)]; rfl
  have e1 : g1 = tableOf m ρ c := by rw [hg1]; unfold Dat.before; rw [if_pos (fetch0_1 t0_0)]; rfl
  subst e0 e1
  unfold Dat.owesAt Pipeline.owesWithin
  icases Ho with ⟨%W, %hW, HO⟩
  rw [show (dats m ρ σ 0 c).owed t0_0.castSucc = owed₀ σ c from rfl]
  -- the word at the device's own number: where the block goes
  iapply (wp_load_rect 𝒱₀ (c : Thread nD τ) none Set.univ (m := tabM) (r := Rect.unit (s := S8) (k0_off1 c) S1.size (k0_off1_inb c)) (Finset.subset_univ _)) $$ Htab; iintro Htab
  simp only [wp_assume_of _ _ _ _ (d := k0_chk2.dec _) (target_ok σ _ c (hn.loadedSelf ρ c))]
  -- the eight words: whose block arrives
  iapply (wp_load_rect 𝒱₀ (c : Thread nD τ) none Set.univ (m := tabM) (r := Rect.unit (s := S8) ![0] S1.size inb_S8_S1_0) (Finset.subset_univ _)) $$ Htab; iintro Htab
  iapply (wp_load_rect 𝒱₀ (c : Thread nD τ) none Set.univ (m := tabM) (r := Rect.unit (s := S8) ![1] S1.size inb_S8_S1_1) (Finset.subset_univ _)) $$ Htab; iintro Htab
  iapply (wp_load_rect 𝒱₀ (c : Thread nD τ) none Set.univ (m := tabM) (r := Rect.unit (s := S8) ![2] S1.size inb_S8_S1_2) (Finset.subset_univ _)) $$ Htab; iintro Htab
  iapply (wp_load_rect 𝒱₀ (c : Thread nD τ) none Set.univ (m := tabM) (r := Rect.unit (s := S8) ![3] S1.size inb_S8_S1_3) (Finset.subset_univ _)) $$ Htab; iintro Htab
  iapply (wp_load_rect 𝒱₀ (c : Thread nD τ) none Set.univ (m := tabM) (r := Rect.unit (s := S8) ![4] S1.size inb_S8_S1_4) (Finset.subset_univ _)) $$ Htab; iintro Htab
  iapply (wp_load_rect 𝒱₀ (c : Thread nD τ) none Set.univ (m := tabM) (r := Rect.unit (s := S8) ![5] S1.size inb_S8_S1_5) (Finset.subset_univ _)) $$ Htab; iintro Htab
  iapply (wp_load_rect 𝒱₀ (c : Thread nD τ) none Set.univ (m := tabM) (r := Rect.unit (s := S8) ![6] S1.size inb_S8_S1_6) (Finset.subset_univ _)) $$ Htab; iintro Htab
  iapply (wp_load_rect 𝒱₀ (c : Thread nD τ) none Set.univ (m := tabM) (r := Rect.unit (s := S8) ![7] S1.size inb_S8_S1_7) (Finset.subset_univ _)) $$ Htab; iintro Htab
  simp only [wp_assume_of _ _ _ _ (d := k0_chk1.dec _ _ _ _ _ _ _ _ _) (k0_chk1_all _ _ _ _ _ _ _ _ _)]
  -- the signal to that device, with the landing buffer
  ihave Hout := (Entails.of_eq (outPts_eq c g2).symm) $$ Hout
  iapply (wp_signal_source m ρ σ K c _ (source_eq σ c (loaded m ρ c) (hn.loaded ρ c) (k0_chk1_all _ _ _ _ _ _ _ _ _)) W g2) $$ [HO HtB Hout]
  · isplitr; · iexact HR
    isplitl [HO]; · iexact HO
    isplitl [HtB] <;> iassumption
  iintro HO
  -- the wait at its own barrier: the buffer of the device it sends to
  iapply (wp_wait_own m ρ σ K c 0 1 (wpE_semWait_eq 𝒱₀ (c : Thread nD τ) none Set.univ) rfl (amount_bar m ρ σ c).symm (owedCopy σ c) W) $$ [HcB HO HaB]
  · isplitr; · iexact HR
    isplitl [HcB]; · iexact HcB
    isplitl [HO]; · iexact HO
    isplitr; · iapply (wait_barrier (F := F) σ c); iexact Hlev
    iexact HaB
  iintro ⟨HO, HzB, Hp⟩
  ihave Hp := (Entails.of_eq (handed_bar m ρ σ c)) $$ Hp
  icases Hp with ⟨%fn, HoutN⟩
  -- the copy
  ihave Hin := (Entails.of_eq (inPts_eq m ρ c).symm) $$ Hin
  iapply (wp_copy m ρ σ K c _ (target_eq σ _ c (hn.loadedSelf ρ c) (target_ok σ _ c (hn.loadedSelf ρ c))) fn _) $$ [Hin HoutN HO HtS HtV]
  · isplitr; · iexact HR
    isplitl [Hin]; · iexact Hin
    isplitl [HoutN]; · iexact HoutN
    isplitl [HO]; · iexact HO
    isplitl [HtS] <;> iassumption
  iintro ⟨HcS, HO⟩
  -- its own copy is done: the block is its own again
  iapply (wp_wait_own m ρ σ K c 1 credit (wpE_waitDma2_eq (dst := inM) 𝒱₀ (c : Thread nD τ) none Set.univ) credit_in (amount_copy m ρ σ c 1 (by decide)).symm 0 _) $$ [HcS HO HaS]
  · isplitr; · iexact HR
    isplitl [HcS]; · iexact HcS
    isplitl [HO]; · iexact HO
    isplitr; · rw [MayWait_zero]; iempintro
    iexact HaS
  iintro ⟨HO, HzS, Hp⟩
  ihave Hin := (Entails.of_eq ((handed_send m ρ σ c).trans (inPts_eq m ρ c))) $$ Hp
  -- the copy onto it is done: its landing buffer, holding the block
  iapply (wp_wait_own m ρ σ K c 2 credit (wpE_waitDma2_eq (dst := outM) 𝒱₀ (c : Thread nD τ) none Set.univ) rfl (amount_copy m ρ σ c 2 (by decide)).symm 0 _) $$ [HcV HO HaV]
  · isplitr; · iexact HR
    isplitl [HcV]; · iexact HcV
    isplitl [HO]; · iexact HO
    isplitr; · rw [MayWait_zero]; iempintro
    iexact HaV
  iintro ⟨HO, HzV, Hp⟩
  ihave Hout := (Entails.of_eq ((handed_recv m ρ σ c).trans (outPts_eq c _))) $$ Hp
  rw [wp_ret]; imodintro
  unfold after finish Dat.owesAt Pipeline.owesWithin
  rw [show (dats m ρ σ 0 c).owed t0_0.succ = 0 from rfl]
  isplitl [HzB HzS HzV]
  · isplitl [HzB]; · iexact HzB
    isplitl [HzS] <;> iassumption
  isplitl [HO]
  · iexists (insert (semOf 2, ()) (insert (semOf 1, ()) (insert (semOf 0, ()) W)))
    isplitr; · ipureintro; exact fun _ _ => Or.inl trivial
    iexact HO
  isplitl [Hin]
  · iexists _; isplitr; · (ipureintro; rfl)
    iexact Hin
  isplitl [Htab]
  · iexists _; isplitr; · (ipureintro; rfl)
    iexact Htab
  iexists _; isplitr; · (ipureintro; rfl)
  iexact Hout

set_option maxRecDepth 4000 in
/-- The region's obligation for its body. -/
theorem body_obligation (hn : AllName m σ) (c : Dev nD) :
    BodyObligation (dats (F := F) m ρ σ 0 c) (defs₀ (F := F)) 𝒱₀ () Set.univ := fun t => by
  rw [fin_N0 t, bigSep_W0, bigSep_W0]
  simp only [owns_whole]
  exact body_runs m ρ σ hn c

end Cert.Permute

end
-- ==== Proof.Launch.lean ====
/-
# The launch

The eight devices start together: every cell's invariant is made from its counter at zero, the right to each payment goes
to the device that makes it (`σ` or its inverse applied to the devices), and what is owed is credited to whoever waits for
it. Then the whole run, and what the arrays hold after it.
-/
module

public import proofs.«01_k».proof.Proof.Body
public import Idealize.ShloMosaic.Lib.Pipeline.CollectiveSegs

@[expose] public section

noncomputable section

namespace Cert.Permute

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ Ghost ℕ

variable (m : (ℓ : Loc nD τ sig) → Buf (Elt F) ℓ) (ρ : Dev nD → PrngReg) (σ : Equiv.Perm (Dev nD))

/-! ## The ghost state at the start -/

/-- All cells, and the right to the one payment of each. -/
def cells : Finset (GSem nD τ sig) := Finset.univ.map ⟨cell, cell_injective⟩
def rights : Finset (GSem nD τ sig × ℕ × Unit) :=
  Finset.univ.map ⟨fun p : Dev nD × Fin 3 => (cell p, 0, ()), fun _ _ h => cell_injective (congrArg Prod.fst h)⟩

def ghost₀ : Ghost :=
  (initOf (Pipeline.cells cfgs cellOf_inj) (Pipeline.launchToks cfgs cellOf_inj), initOf cells rights)

/-- What each device is dealt: for its three cells, their round's state, its place there and the right to the payment. -/
def dealt (c : Dev nD) : sProp 𝕄 :=
  iprop((bigSep Finset.univ fun k : Fin 3 => roundState EX (plan m ρ σ) (cell (c, k)) 0)
    ∗ (bigSep Finset.univ fun k : Fin 3 => atPos EX (cell (c, k)) 0 ∅ 0)
    ∗ (bigSep Finset.univ fun k : Fin 3 => reached EX (cell (c, k)) 0)
    ∗ bigSep Finset.univ fun k : Fin 3 => dutyTok EX (cell (c, k)) 0 ())

/-- What it starts the exchange with. -/
def ready (c : Dev nD) : sProp 𝕄 := iprop(∃ K, records m ρ σ K ∗ own σ c)

omit [FloatOps F] in
theorem over_cells (Φ : GSem nD τ sig → sProp 𝕄) :
    bigSep cells Φ = bigSep Finset.univ fun c : Dev nD => bigSep Finset.univ fun k : Fin 3 => Φ (cell (c, k)) := by
  unfold cells; rw [bigSep_map, bigSep_univ_prod]; rfl
omit [FloatOps F] in
theorem over_rights : bigSep rights (fun x => (dutyTok EX x.1 x.2.1 x.2.2 : sProp 𝕄))
    = bigSep Finset.univ fun c : Dev nD => bigSep Finset.univ fun k : Fin 3 => dutyTok EX (cell (c, k)) 0 () := by
  unfold rights; rw [bigSep_map, bigSep_univ_prod]; rfl

omit [FloatOps F] in
theorem deal : BI.own (EX (initOf cells rights)) ⊢ (|==> bigSep Finset.univ (dealt m ρ σ) : sProp 𝕄) := by
  iintro H
  imod (Rounds.fund EX (plan m ρ σ) cells rights) $$ H with ⟨Hst, Hr, Hat, Htok⟩
  imodintro
  ihave Hst := (Entails.of_eq (over_cells fun g => roundState EX (plan m ρ σ) g 0)) $$ Hst
  ihave Hat := (Entails.of_eq (over_cells fun g => atPos EX g 0 ∅ 0)) $$ Hat
  ihave Hr := (Entails.of_eq (over_cells fun g => reached EX g 0)) $$ Hr
  ihave Htok := (Entails.of_eq over_rights) $$ Htok
  unfold dealt; simp only [bigSep_sep']
  isplitl [Hst]; · iexact Hst
  isplitl [Hat]; · iexact Hat
  isplitl [Hr] <;> iassumption

/-! ## The counters -/

/-- The kernel's own two semaphores, send and receive. -/
abbrev ownSem : Fin 2 → SemLoc sig := fun | 0 => semOf 1 | 1 => semOf 2

theorem ownSemFacts : Pipeline.OwnSemFacts cfg0.spec ownSem := by decide

omit [FloatOps F] in
theorem own_counters (c : Dev nD) : (Pipeline.ownSems0 (Ix := Unit) (Name := ℕ) (U := Ghost) (Lvl := ℕ) (Val := Elt F) (τ := τ) ownSem c : sProp 𝕄)
    = iprop(semVal (cell (c, 1)) 0 ∗ semVal (cell (c, 2)) 0) := by
  rw [Pipeline.ownSems0_eq_of_list c ownSem [0, 1] (by decide) (by decide)]; rfl
omit [FloatOps F] in
theorem barrier_counter (c : Dev nD) : (unscopedSems0 c : sProp 𝕄) = semVal (cell (c, 0)) 0 := by
  unfold unscopedSems0; rw [bigSep_eq_bigSepL_of_eq [semOf 0] (by decide) (by decide)]; rfl

omit [FloatOps F] in
/-- On one device: its counters at zero and its cells' states make its cells' invariants. -/
theorem make_invariants (c : Dev nD) :
    iprop(Pipeline.ownSems0 (Ix := Unit) (Name := ℕ) (U := Ghost) (Lvl := ℕ) (Val := Elt F) (τ := τ) ownSem c ∗ unscopedSems0 c ∗ dealt m ρ σ c)
      ⊢ |={Set.univ}=> iprop((bigSep Finset.univ fun k : Fin 3 => iprop(∃ κ : ℕ, cellInv EX (plan m ρ σ) κ (cell (c, k))))
          ∗ (bigSep Finset.univ fun k : Fin 3 => atPos EX (cell (c, k)) 0 ∅ 0)
          ∗ (bigSep Finset.univ fun k : Fin 3 => reached EX (cell (c, k)) 0)
          ∗ bigSep Finset.univ fun k : Fin 3 => dutyTok EX (cell (c, k)) 0 ()) := by
  have alloc : iprop((bigSep Finset.univ fun k : Fin 3 => semVal (cell (c, k)) 0) ∗ bigSep Finset.univ fun k : Fin 3 => roundState EX (plan m ρ σ) (cell (c, k)) 0)
      ⊢ (|={Set.univ}=> bigSep Finset.univ fun k : Fin 3 => iprop(∃ κ : ℕ, cellInv EX (plan m ρ σ) κ (cell (c, k))) : sProp 𝕄) := by
    rw [← bigSep_sep']
    exact (bigSep_mono fun k _ => (Rounds.body_intro EX (plan m ρ σ) (cell (c, k))).trans inv_alloc).trans (bigSep_fupd _ _)
  unfold dealt
  rw [own_counters, barrier_counter]
  iintro ⟨⟨HS, HV⟩, HB, Hst, Hrest⟩
  imod alloc $$ [HS HV HB Hst] with Hinv
  · isplitl [HS HV HB]
    · rw [three]
      isplitl [HB]; · iexact HB
      isplitl [HS] <;> iassumption
    iexact Hst
  imodintro
  isplitl [Hinv]; · iexact Hinv
  iexact Hrest

omit [FloatOps F] in
/-- Each payment's right goes to the device that makes the payment. -/
theorem hand_out :
    (bigSep Finset.univ fun c : Dev nD => bigSep Finset.univ fun k : Fin 3 => (dutyTok EX (cell (c, k)) 0 () : sProp 𝕄))
      ⊢ bigSep Finset.univ fun c : Dev nD =>
          iprop(dutyTok EX (cell (σ.symm c, 0)) 0 () ∗ dutyTok EX (cell (c, 1)) 0 () ∗ dutyTok EX (cell (σ c, 2)) 0 ()) := by
  rw [bigSep_congr (s := Finset.univ) (fun (c : Dev nD) _ => three fun k => (dutyTok EX (cell (c, k)) 0 () : sProp 𝕄))]
  simp only [bigSep_sep']
  rw [bigSep_univ_equiv σ.symm (fun c : Dev nD => (dutyTok EX (cell (c, 0)) 0 () : sProp 𝕄)),
    bigSep_univ_equiv σ (fun c : Dev nD => (dutyTok EX (cell (c, 2)) 0 () : sProp 𝕄))]

omit [FloatOps F] in
theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- All devices' invariants become known to all. -/
theorem share_records :
    (bigSep Finset.univ fun c : Dev nD => iprop((bigSep Finset.univ fun k : Fin 3 => iprop(∃ κ : ℕ, cellInv EX (plan m ρ σ) κ (cell (c, k))))
          ∗ (bigSep Finset.univ fun k : Fin 3 => atPos EX (cell (c, k)) 0 ∅ 0)
          ∗ (bigSep Finset.univ fun k : Fin 3 => reached EX (cell (c, k)) 0)
          ∗ bigSep Finset.univ fun k : Fin 3 => dutyTok EX (cell (c, k)) 0 ()) : sProp 𝕄)
      ⊢ bigSep Finset.univ (ready m ρ σ) := by
  simp only [bigSep_sep']
  rw [← bigSep_univ_prod (fun p : Dev nD × Fin 3 => iprop(∃ κ : ℕ, cellInv EX (plan m ρ σ) κ (cell p))),
    ← bigSep_univ_prod (fun p : Dev nD × Fin 3 => (reached EX (cell p) 0 : sProp 𝕄))]
  iintro ⟨HI, Hat, #Hr, Htok⟩
  ihave HK := (BI.bigSep_exists_pi Finset.univ (fun (p : Dev nD × Fin 3) (κ : ℕ) => (cellInv EX (plan m ρ σ) κ (cell p) : sProp 𝕄))) $$ HI
  icases HK with ⟨%K, #HI⟩
  ihave Htok := (hand_out (F := F) σ) $$ Htok
  iapply (with_records (R := records m ρ σ K) (Φ := own σ) fun c _ => show iprop(records m ρ σ K ∗ own σ c) ⊢ ready m ρ σ c by
    unfold ready; iintro H; iexists K; iexact H)
  isplitr
  · unfold records; isplitl
    · iexact HI
    · iexact Hr
  · unfold own; simp only [bigSep_sep']
    isplitl [Hat] <;> iassumption

omit [FloatOps F] in
theorem start_together :
    (bigSep Finset.univ fun c => iprop(Pipeline.ownSems0 (Ix := Unit) (Name := ℕ) (U := Ghost) (Lvl := ℕ) (Val := Elt F) (τ := τ) ownSem c ∗ unscopedSems0 c ∗ dealt m ρ σ c) : sProp 𝕄)
      ⊢ |={Set.univ}=> bigSep Finset.univ (ready m ρ σ) :=
  ((bigSep_mono fun c _ => make_invariants m ρ σ c).trans (bigSep_fupd _ _)).trans (BI.fupd_mono (share_records m ρ σ))

/-! ## The credit -/

theorem cell_eq_iff {k : Fin 3} {a b : Dev nD} : cell (a, k) = cell (b, k) ↔ a = b :=
  ⟨fun h => congrArg Prod.fst (cell_injective h), fun h => by rw [h]⟩

theorem tally_at {k : Fin 3} (a b : Dev nD) (n : ℕ) :
    (tallyAt (cell (a, k)) () n : CellTallies nD τ sig Unit) (cell (b, k)) () = if b = a then n else 0 := by
  rw [tallyAt_apply]; exact if_congr ⟨fun h => cell_eq_iff.mp h.1, fun h => ⟨by rw [h], rfl⟩⟩ rfl rfl
theorem tally_off {j k : Fin 3} (h : j ≠ k) (a b : Dev nD) (n : ℕ) :
    (tallyAt (cell (a, j)) () n : CellTallies nD τ sig Unit) (cell (b, k)) () = 0 := by
  rw [tallyAt_ne_cell (fun e => h (congrArg Prod.snd (cell_injective e)).symm), Finsupp.zero_apply]

/-- Device `c`'s barrier is owed its unit by `σ c`, its receive semaphore its credit by `σ.symm c`. -/
theorem owed_bar (d c : Dev nD) : owed₀ σ d (cell (c, 0)) () = if d = σ c then 1 else 0 := by
  unfold owed₀ owedCopy
  rw [Pi.add_apply, Finsupp.add_apply, tally_off (by decide), Nat.zero_add, tally_at]
  exact if_congr (by rw [Equiv.eq_symm_apply]; exact eq_comm) rfl rfl
theorem owed_recv (d c : Dev nD) : owed₀ σ d (cell (c, 2)) () = if d = σ.symm c then credit else 0 := by
  unfold owed₀ owedCopy
  rw [Pi.add_apply, Finsupp.add_apply, tally_off (j := 0) (by decide), Nat.add_zero, tally_at]
  exact if_congr (by rw [Equiv.eq_symm_apply]; exact eq_comm) rfl rfl

theorem credit_of (c d : Dev nD) (k : Fin 3) (n : ℕ) (h : ∀ e, owed₀ σ e (cell (c, k)) () = if e = d then n else 0) :
    tallyOn (cell (c, k)) (launchCredit (Pipeline.owing (owed₀ σ)) 0 (cell (c, k))) = (tallyAt (cell (c, k)) () n : CellTallies nD τ sig Unit) := by
  unfold tallyAt; refine congrArg _ (Finsupp.ext fun u => ?_); cases u
  rw [Pipeline.launchCredit_owing, Finsupp.single_eq_same, Finset.sum_congr rfl fun e _ => h e,
    Finset.sum_ite_eq' Finset.univ d fun _ => n, if_pos (Finset.mem_univ _)]

omit [FloatOps F] in
theorem credits (c : Dev nD) :
    (Pipeline.launchCred (owed₀ σ) c : sProp 𝕄) ⊢ iprop(cred (tallyAt (cell (c, 0)) () 1) ∗ cred (tallyAt (cell (c, 2)) () credit)) := by
  unfold Pipeline.launchCred
  rw [bigSep_univ_at _ (semOf 0), credit_of σ c (σ c) 0 1 (fun d => owed_bar σ d c)]
  refine sep_mono_right ?_
  rw [← credit_of σ c (σ.symm c) 2 credit (fun d => owed_recv σ d c)]
  exact bigSep_elim (Finset.mem_erase.mpr ⟨show semOf 2 ≠ semOf 0 by decide, Finset.mem_univ _⟩)

/-! ## Into the region and out of it -/

omit [FloatOps F] in
theorem enter (c : Dev nD) :
    iprop(Pipeline.unscopedRestP Pipeline.Prefetch.none cfg0.spec c (fun b => m ((c : Thread nD τ).loc b)) ∗ levAts kinds rank
        ∗ Pipeline.launchCred (owed₀ σ) c ∗ prngReg c (ρ c) ∗ ready m ρ σ c)
      ⊢ |={Set.univ}=> iprop(start m ρ σ c ∗ emp) := by
  iintro ⟨-, Hlev, Hcr, -, HG⟩
  ihave Hc := (credits (F := F) σ c) $$ Hcr
  icases Hc with ⟨H1, HN⟩
  imodintro
  unfold start ready
  isplitl
  · isplitl [HG]; · iexact HG
    isplitl [H1]; · iexact H1
    isplitl [HN] <;> iassumption
  · iempintro

theorem enter_region (c : Dev nD) :
    iprop(start m ρ σ c ∗ Pipeline.prefHeld Pipeline.Prefetch.none c (fun _ => fullShare.right) (fun k => k.elim0) ∗ Pipeline.scopedRest cfg0.spec c)
      ⊢ (dats m ρ σ 0 c).Φ 0 := by
  rw [show (dats m ρ σ 0 c).Φ 0 = start m ρ σ c from rfl]
  iintro ⟨Hs, -, -⟩
  iexact Hs

theorem leave_region (c : Dev nD) :
    (dats m ρ σ 0 c).Φ (Fin.last cfg0.N) ⊢ iprop(unscopedSems0 c ∗ Pipeline.ownSems0 ownSem c ∗ Pipeline.scopedRest cfg0.spec c) := by
  rw [show (dats m ρ σ 0 c).Φ (Fin.last cfg0.N) = finish (F := F) c from rfl, scopedRest0_eq, own_counters, barrier_counter]
  unfold finish
  iintro ⟨HB, HS, HV⟩
  isplitl [HB]; · iexact HB
  isplitl
  · isplitl [HS] <;> iassumption
  iempintro

theorem staging_waits (c : Dev nD) : (levAts kinds rank : sProp 𝕄) ⊢ Pipeline.cellsWaits cfgs (dats m ρ σ) () 0 c :=
  Pipeline.cellsWaits_intro cfgs (dats m ρ σ) () 0 c fun w s t =>
    wait_staging σ c _ (by fin_cases w <;> fin_cases s <;> decide) _ (by
      rcases t with ⟨_ | _, ht⟩
      · exact Or.inl rfl
      · exact Or.inr rfl)

theorem share_full (c : Dev nD) (w : Fin cfg0.W) : (dats m ρ σ 0 c).share w = fullShare := by
  unfold Dat.share; split <;> rfl

/-! ## The run -/

/-- Window `w`'s array on device `c` after the region. -/
def final (c : Dev nD) (w : Fin cfg0.W) : Buf (Elt F) ((cfg0.win w).arr.view.loc (c : Thread nD τ)) :=
  (dats m ρ σ 0 c).arrAt w cfg0.N

set_option maxRecDepth 8000 in
/-- Over any float values, from any memory in which every device's table names `σ`: all executions end, every window's
    array at its final contents and every counter at zero. -/
theorem run_windows (hn : AllName m σ) : θ_run defs (onTc (τ := τ) (main (F := F))) (mem₀ m ρ) (fun r =>
    (∀ c : Dev nD, ∀ w : Fin cfg0.W, r.2.mem ((cfg0.win w).arr.view.loc (c : Thread nD τ)) = final m ρ σ c w) ∧ r.2.sem = fun _ => 0) :=
  Pipeline.θ_run_region_owing_glob_pf (fun p => (cfgs p).toPCfg) (fun p => (cfgs p).toPCfg_adm) (dats m ρ σ) () cellOf_inj (0 : Fin 1)
    winFacts0.to₀ ownSemFacts (Pipeline.PreFacts.none _) EStage defs₀ 𝒱₀ m ρ main
    (hmain := fun _ => rfl)
    (hbody := body_obligation m ρ σ hn) (hne := fun w => by fin_cases w <;> exact Nat.succ_pos _) (harr := arr_whole0)
    (hstage := stage_whole0) (hshare := share_full m ρ σ)
    (hdistinct := winFacts0.arr_inj)
    (O₀ := owed₀ σ) (howed₀ := fun _ => rfl) (howedN := fun _ => rfl)
    (L := kinds) (lv := rank) (hL := kinds_of_ne) (hwaits := staging_waits m ρ σ)
    (G := dealt m ρ σ) (G' := ready m ρ σ) (u₀ := ghost₀)
    (hu₀ := by
      unfold ghost₀
      iintro Hu
      ihave H := (ownU_pair _ _) $$ Hu
      icases H with ⟨HP, HX⟩
      imod (deal m ρ σ) $$ HX with HG
      imodintro
      isplitl [HP] <;> iassumption)
    (hglob := start_together m ρ σ)
    (hA := fun _ _ => rfl) (hpf := fun _ k => k.elim0)
    (X := start m ρ σ) (Y := fun c => unscopedSems0 c) (Z := fun _ => iprop(emp))
    (hX := enter m ρ σ) (hin := enter_region m ρ σ) (hout := leave_region m ρ σ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays end as they were, -/
theorem final_x (c : Dev nD) : final m ρ σ c (0 : Fin 3) = m ((c : Thread nD τ).loc main_arg0) :=
  (dats (F := F) m ρ σ 0 c).arrAt_in (0 : Fin 3) rfl _
theorem final_table (c : Dev nD) : final m ρ σ c (1 : Fin 3) = m ((c : Thread nD τ).loc main_arg1) :=
  (dats (F := F) m ρ σ 0 c).arrAt_in (1 : Fin 3) rfl _

/-- and the result's array holds the block of the device that sends here. -/
theorem final_result (c : Dev nD) : final m ρ σ c (2 : Fin 3) = m ((σ.symm c : Thread nD τ).loc main_arg0) := by
  have h : (win0_2.blk (0 : Fin 1)).view.read (Elt F) (final m ρ σ c (2 : Fin 3)) = landedOn m ρ σ c := by
    unfold final
    rw [show cfg0.N = ((0 : Fin 1) : Fin cfg0.N).val + 1 from rfl, (dats m ρ σ 0 c).arrAt_succ (2 : Fin 3) (0 : Fin 1),
      if_pos (flush0_2 (0 : Fin 1))]
    exact View.read_write_univ _ _
  have hz : (fun a => (win0_2.index (0 : Fin 1)) a * main_v1.ty.shape.size a) = fun _ => 0 :=
    funext fun a => by fin_cases a <;> decide
  have hr := Memref.read_access_unit_zero (Elt F) main_v1 hz (fun a => by fin_cases a <;> decide) (final m ρ σ c (2 : Fin 3))
  exact hr.symm.trans (h.trans (blockOf_eq m ρ (σ.symm c)))

/-- THE RUN: both arguments unchanged, every device's result the block of the device that sends to it, every counter zero. -/
theorem run (hn : AllName m σ) : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1))
    ∧ (∀ c : Dev nD, r.2.mem ((c.tc : Thread nD τ).loc main_v1) = m ((σ.symm c).tc.loc main_arg0))
    ∧ r.2.sem = fun _ => 0) :=
  (θ_run defs _ _).mono (fun _ h => ⟨fun c => ⟨(h.1 c (0 : Fin 3)).trans (final_x m ρ σ c), (h.1 c (1 : Fin 3)).trans (final_table m ρ σ c)⟩,
    fun c => (h.1 c (2 : Fin 3)).trans (final_result m ρ σ c), h.2⟩) (run_windows m ρ σ hn)

end Cert.Permute

end
-- ==== Proof.Reference.lean ====
/-
# What the reference computes

The reference sorts the table together with the numbers 0, …, 7 and gathers the rows that the sorted numbers name. Of a
table that names `σ` the sort's numbers are `σ.symm 0, …, σ.symm 7`, so row `d` of the result is row `σ.symm d` of `x`:
block `d` of the result is block `σ.symm d` of `x`.
-/
module

public import proofs.«01_k».proof.Proof.Table
public import proofs.«01_k».proof.Proof.Gen.ReferenceIdeal.Run
public import Idealize.ShloMosaic.Lib.SortNet.HostSort
public import Idealize.ShloMosaic.Lib.Layout

@[expose] public section

noncomputable section

namespace Cert.Permute

open Idealize.ShloMosaic Idealize.ShloMosaic.TcCoe Idealize.SL.Sem
open Cert.ReferenceIdeal Cert.ReferenceIdeal.Gen

/-! ## The sort -/

variable (σ : Equiv.Perm (Fin 8))

/-- Sorting the positions by the numbers of a permutation lists them by its inverse. -/
theorem sorted_inverse (j : Fin 8) : sortedFrom (fun a b => decide ((σ a).val < (σ b).val)) j = σ.symm j := by
  have hp : ((List.finRange 8).map σ.symm).Perm (List.finRange 8) := by
    refine (List.perm_ext_iff_of_nodup ((List.nodup_finRange 8).map σ.symm.injective) (List.nodup_finRange 8)).mpr fun a => ?_
    simp only [List.mem_map, List.mem_finRange, true_and, iff_true]
    exact ⟨σ a, σ.symm_apply_apply a⟩
  have hs : ((List.finRange 8).map σ.symm).Pairwise fun a b => (σ a).val < (σ b).val := by
    rw [List.pairwise_map]
    refine (List.pairwise_lt_finRange 8).imp fun {a b} h => ?_
    rw [σ.apply_symm_apply, σ.apply_symm_apply]; exact h
  rw [SortNet.sortedFrom_eq_getElem_of_pairwise_lt (fun a => (σ a).val) _ hp hs j (by simp)]
  simp

/-- The signed order of two of the words 0, …, 7. -/
theorem slt_word (a b : Fin 8) :
    (IntOp.cmpi .slt (BitVec.ofNat 32 a.val) (BitVec.ofNat 32 b.val) == 1#1) = decide (a.val < b.val) := by
  revert a b; decide

theorem along_at8 (j : S8.Idx) (k : Fin 8) : j.along (0 : Fin 1) k = at8 k :=
  funext fun a => by fin_cases a; rfl

/-- The order in which the sort of `t` puts two positions. -/
def earlier (t : IVec S8 32) (j : S8.Idx) (k k' : Fin 8) : Bool :=
  comparator_i32_i32_d0 (t (j.along (0 : Fin 1) k), iotaInDim S8 32 0 (j.along (0 : Fin 1) k))
    (t (j.along (0 : Fin 1) k'), iotaInDim S8 32 0 (j.along (0 : Fin 1) k')) == 1#1

theorem earlier_eq (t : IVec S8 32) (ht : Names t σ) (j : S8.Idx) :
    earlier t j = fun a b => decide ((σ a).val < (σ b).val) := by
  funext k k'
  unfold earlier
  rw [along_at8, along_at8]
  show (IntOp.cmpi .slt (t (at8 k)) (t (at8 k')) == 1#1) = _
  rw [ht k, ht k', slt_word]

/-- The numbers carried along by the sort of a table that names `σ`. -/
theorem argsort_word (t : IVec S8 32) (ht : Names t σ) (j : S8.Idx) :
    (Host.sort2 S8 0 comparator_i32_i32_d0 t (iotaInDim S8 32 0)).2 j = BitVec.ofNat 32 (σ.symm (j 0)).val := by
  have hs : sortedFrom (earlier t j) (j 0) = σ.symm (j 0) := by rw [earlier_eq σ t ht]; exact sorted_inverse σ _
  have h : (Host.sort2 S8 0 comparator_i32_i32_d0 t (iotaInDim S8 32 0)).2 j
      = iotaInDim S8 32 0 (j.along (0 : Fin 1) (sortedFrom (earlier t j) (j 0))) := rfl
  exact h.trans (congrArg (fun k : Fin 8 => iotaInDim S8 32 0 (j.along (0 : Fin 1) k)) hs)

/-- A word 0, …, 7 is not negative, so the wrap of negative indices leaves it. -/
theorem wrap_word (a : Fin 8) :
    Scalar.select (IntOp.cmpi .slt (BitVec.ofNat 32 a.val) 0#32) (BitVec.ofNat 32 a.val + 8#32) (BitVec.ofNat 32 a.val) = BitVec.ofNat 32 a.val := by
  revert a; decide

/-! ## The gather -/

/-- The gather of rows: where the index word of row `r` is `b`, row `r` of the result is row `b` of `x`. -/
theorem gather_block {α : Type} (x : S8x2048x1024.Idx → α) (idx : IVec S8x1 32) (y z : S8x2048x1024.Idx)
    (hidx : ∀ i : S8x1.Idx, (i 0).val = (y 0).val → idx i = BitVec.ofNat 32 (z 0).val)
    (h1 : (z 1).val = (y 1).val) (h2 : (z 2).val = (y 2).val) :
    Host.gather gather_S8x2048x1024_S8x1_S8x2048x1024_12_0_n_n_0_1_120481024 x idx y = x z := by
  unfold Host.gather
  refine congrArg x (funext fun a => Fin.ext ?_)
  match a with
  | ⟨0, _⟩ =>
    have hw : ∀ b : Fin 8, min (BitVec.ofNat 32 b.val).toInt.toNat 7 = b.val := by decide
    refine Eq.trans ?_ (hw (z 0))
    rw [← hidx (GatherDims.siIdx gather_S8x2048x1024_S8x1_S8x2048x1024_12_0_n_n_0_1_120481024 y (0 : Fin 1)) rfl]
    rfl
  | ⟨1, _⟩ => exact (Eq.trans (Nat.zero_add _) h1.symm)
  | ⟨2, _⟩ => exact (Eq.trans (Nat.zero_add _) h2.symm)

/-! ## The result -/

variable {F : FTy → Type} [FloatOps F]

/-- The reference's result of `x` and the table `t`. -/
def permuted (x : FVec F S8x2048x1024 .f32) (t : IVec S8 32) : FVec F S8x2048x1024 .f32 :=
  Host.gather gather_S8x2048x1024_S8x1_S8x2048x1024_12_0_n_n_0_1_120481024 x
    (broadcastInDim S8x1 ![0] bcast_S8_S8x1_0
      (select (cmpi .slt (Host.sort2 S8 0 comparator_i32_i32_d0 t (iotaInDim S8 32 0)).2 (broadcastInDim S8 ![] bcast_S_S8 (constantI S_ 32 0#32)))
        (addi (Host.sort2 S8 0 comparator_i32_i32_d0 t (iotaInDim S8 32 0)).2 (broadcastInDim S8 ![] bcast_S_S8 (constantI S_ 32 8#32)))
        (Host.sort2 S8 0 comparator_i32_i32_d0 t (iotaInDim S8 32 0)).2))

omit [FloatOps F] in
theorem permuted_apply (x : FVec F S8x2048x1024 .f32) (t : IVec S8 32) (ht : Names t σ) (y z : S8x2048x1024.Idx)
    (h0 : z 0 = σ.symm (y 0)) (h1 : (z 1).val = (y 1).val) (h2 : (z 2).val = (y 2).val) : permuted x t y = x z := by
  refine gather_block x _ y z (fun i hi => ?_) h1 h2
  have hj : ∀ j : S8.Idx, j 0 = y 0 → select (cmpi .slt (Host.sort2 S8 0 comparator_i32_i32_d0 t (iotaInDim S8 32 0)).2 (broadcastInDim S8 ![] bcast_S_S8 (constantI S_ 32 0#32)))
        (addi (Host.sort2 S8 0 comparator_i32_i32_d0 t (iotaInDim S8 32 0)).2 (broadcastInDim S8 ![] bcast_S_S8 (constantI S_ 32 8#32)))
        (Host.sort2 S8 0 comparator_i32_i32_d0 t (iotaInDim S8 32 0)).2 j = BitVec.ofNat 32 (z 0).val := fun j hj => by
    show Scalar.select (IntOp.cmpi .slt ((Host.sort2 S8 0 comparator_i32_i32_d0 t (iotaInDim S8 32 0)).2 j) 0#32)
      ((Host.sort2 S8 0 comparator_i32_i32_d0 t (iotaInDim S8 32 0)).2 j + 8#32) ((Host.sort2 S8 0 comparator_i32_i32_d0 t (iotaInDim S8 32 0)).2 j) = _
    rw [argsort_word σ t ht j, wrap_word, h0, hj]
  exact hj _ (Fin.ext hi)

omit [FloatOps F] in
/-- BLOCK `d` OF THE RESULT IS BLOCK `σ.symm d` OF `x`. -/
theorem permuted_block (x : FVec F S8x2048x1024 .f32) (t : IVec S8 32) (ht : Names t σ) (d : Fin 8) :
    Layout.block ⟨3, ![1, 2048, 1024]⟩ ⟨3, ![8, 2048, 1024]⟩ 0 8 d (permuted x t)
      = Layout.block ⟨3, ![1, 2048, 1024]⟩ ⟨3, ![8, 2048, 1024]⟩ 0 8 (σ.symm d) x := by
  have h : Layout.Tiles ⟨3, ![1, 2048, 1024]⟩ ⟨3, ![8, 2048, 1024]⟩ 0 8 := by decide
  have hrow : ∀ (c : Fin 8) (i : (⟨3, ![1, 2048, 1024]⟩ : Shape).Idx), (h.idx c i (0 : Fin 3)).val = c.val := fun c i => by
    have hi : (i (0 : Fin 3)).val < 1 := (i (0 : Fin 3)).isLt
    show c.val * 1 + (i (0 : Fin 3)).val = c.val
    omega
  funext i
  refine permuted_apply σ x t ht (h.idx d i) (h.idx (σ.symm d) i) (Fin.ext ?_) rfl rfl
  rw [hrow]
  exact congrArg (fun e : Fin 8 => (σ.symm e).val) (Fin.ext (hrow d i)).symm

/-- The reference's run. -/
theorem reference_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7) = permuted (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

end Cert.Permute

end
-- ==== Proof.Claims.lean ====
/-
# The claims for one permutation

What the certificate claims of the kernel and of the reference, at any permutation `σ` that every device's table names.
-/
module

public import proofs.«01_k».proof.Proof.Launch
public import proofs.«01_k».proof.Proof.Reference
public import proofs.«01_k».proof.Proof.Gen.Kernel
public import Idealize.ShloMosaic.PureOps.BitExact
public import Idealize.ShloMosaic.Adequacy
public import Idealize.ShloMosaic.Init

@[expose] public section

noncomputable section

namespace Cert.Permute

open Idealize.ShloMosaic Idealize.ShloMosaic.TcCoe Idealize.SL.Sem

variable (σ : Equiv.Perm (Dev Cert.KernelIdeal.nD))

/-- The kernel's frame over any float values. -/
theorem frame_of {F : FTy → Type} [FloatOps F] (m : (ℓ : Loc Cert.KernelIdeal.nD Cert.KernelIdeal.τ Cert.KernelIdeal.sig) → Buf (Elt F) ℓ)
    (g : Dev Cert.KernelIdeal.nD → PrngReg) (hn : AllName m σ) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨h.1, h.2.2⟩) (run m g σ hn)

set_option smartUnfolding false in
/-- The kernel as printed has the text of the idealized one, so its frame is that one read over bit patterns. -/
theorem frame_printed (m : (ℓ : Loc Cert.Kernel.nD Cert.Kernel.τ Cert.Kernel.sig) → Buf (Elt Bits) ℓ)
    (g : Dev Cert.Kernel.nD → PrngReg)
    (hn : ∀ c : Dev Cert.Kernel.nD, Names (m ((c.tc : Thread Cert.Kernel.nD Cert.Kernel.τ).loc Cert.Kernel.main_arg1)) σ) :
    θ_run (Cert.Kernel.defs (F := Bits)) (onTc (τ := Cert.Kernel.τ) (Cert.Kernel.main (F := Bits))) ⟨m, fun _ => 0, g⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) :=
  frame_of (F := Bits) σ m g hn

/-- The reference's frame, from any memory: it has no semaphore. -/
theorem frame_reference {F : FTy → Type} [FloatOps F] (m : (ℓ : Loc Cert.ReferenceIdeal.nD Cert.ReferenceIdeal.τ Cert.ReferenceIdeal.sig) → Buf (Elt F) ℓ)
    (g : Dev Cert.ReferenceIdeal.nD → PrngReg) :
    θ_run (Cert.ReferenceIdeal.defs (F := F)) (onTc (τ := Cert.ReferenceIdeal.τ) (Cert.ReferenceIdeal.main (F := F))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems (by decide) r.2⟩) (reference_run m g)

/-- THE VALUE: from memories whose arguments are the parts of the reference's, both programs run, and each device's
    result is its block of the reference's. -/
theorem value_of {F : FTy → Type} [FloatOps F] (m : (ℓ : Loc Cert.KernelIdeal.nD Cert.KernelIdeal.τ Cert.KernelIdeal.sig) → Buf (Elt F) ℓ) (g : Dev Cert.KernelIdeal.nD → PrngReg)
    (m' : (ℓ : Loc Cert.ReferenceIdeal.nD Cert.ReferenceIdeal.τ Cert.ReferenceIdeal.sig) → Buf (Elt F) ℓ) (g' : Dev Cert.ReferenceIdeal.nD → PrngReg)
    (hn : AllName m σ)
    (hargs : ∀ c : Dev Cert.KernelIdeal.nD,
      m ((c.tc : Thread Cert.KernelIdeal.nD Cert.KernelIdeal.τ).loc Cert.KernelIdeal.main_arg0) = Layout.block ⟨3, ![1, 2048, 1024]⟩ ⟨3, ![8, 2048, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) :
    ∃ (v0 : Buf (Elt F) (((0 : Dev Cert.ReferenceIdeal.nD).tc : Thread Cert.ReferenceIdeal.nD Cert.ReferenceIdeal.τ).loc Cert.ReferenceIdeal.main_v7)),
      θ_run (Cert.KernelIdeal.defs (F := F)) (onTc (τ := Cert.KernelIdeal.τ) (Cert.KernelIdeal.main (F := F))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![8, 2048, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := F)) (onTc (τ := Cert.ReferenceIdeal.τ) (Cert.ReferenceIdeal.main (F := F))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  refine ⟨permuted (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨?_, h.1 c⟩) (run m g σ hn)
    have ht : Names (m' (((0 : Dev Cert.ReferenceIdeal.nD).tc : Thread Cert.ReferenceIdeal.nD Cert.ReferenceIdeal.τ).loc Cert.ReferenceIdeal.main_arg1)) σ := by
      rw [← (hargs c).2]; exact hn c
    exact (h.2.1 c).trans ((hargs (σ.symm c)).1.trans (permuted_block σ _ _ ht c).symm)
  · exact (θ_run Cert.ReferenceIdeal.defs _ _).mono (fun r h => h 0) (reference_run m' g')

end Cert.Permute

end
-- ==== Proof.Rotations.lean ====
/-
# The rotations of the devices

The table that `np.roll(np.arange(8), k)` is names the rotation `d ↦ d - k` of the devices. A precondition `rolled_by_k`
compares a device's table with that one, so where it is all ones the table names the rotation.
-/
module

public import proofs.«01_k».proof.Proof.Table
public import proofs.«01_k».proof.Proof.Gen.Pre_rolled_by_1_Kernel
public import proofs.«01_k».proof.Proof.Gen.Pre_rolled_by_2_Kernel
public import proofs.«01_k».proof.Proof.Gen.Pre_rolled_by_3_Kernel
public import proofs.«01_k».proof.Proof.Gen.Pre_rolled_by_4_Kernel
public import proofs.«01_k».proof.Proof.Gen.Pre_rolled_by_5_Kernel
public import proofs.«01_k».proof.Proof.Gen.Pre_rolled_by_6_Kernel
public import proofs.«01_k».proof.Proof.Gen.Pre_rolled_by_7_Kernel

@[expose] public section

noncomputable section

namespace Cert.Permute

open Idealize.ShloMosaic Idealize.ShloMosaic.TcCoe
open Cert.KernelIdeal

/-- The rotation by `k`: device `d` sends to device `d - k`. -/
def rotation (k : Dev nD) : Equiv.Perm (Dev nD) where
  toFun d := d - k
  invFun d := d + k
  left_inv := by revert k; decide
  right_inv := by revert k; decide

/-- A table that compares equal everywhere to the words of a rotation names it. -/
theorem names_of_equal (k : Dev nD) (t w : IVec S8 32) (h : cmpi .eq t w = fun _ => 1#1)
    (hw : ∀ d : Dev nD, w (at8 d) = BitVec.ofNat 32 (d - k).val) : Names t (rotation k) := fun d => by
  have hd : IntOp.cmpi .eq (t (at8 d)) (w (at8 d)) = 1#1 := congrFun h (at8 d)
  have he : ∀ a b : BitVec 32, IntOp.cmpi .eq a b = 1#1 → a = b := fun a b hab => by
    by_contra hne
    have h0 : IntOp.cmpi .eq a b = 0#1 := by
      show BitVec.ofBool (a == b) = 0#1
      rw [beq_eq_false_iff_ne.mpr hne]; rfl
    exact absurd (h0.symm.trans hab) (by decide)
  exact (he _ _ hd).trans (hw d)

variable {F : FTy → Type} [FloatOps F]

theorem names_1 (x : FVec F S1x2048x1024 .f32) (t : IVec S8 32) (h : Cert.Pre_rolled_by_1_Kernel.fn (F := F) x t = fun _ => 1#1) :
    Names t (rotation 1) := names_of_equal 1 t _ h (by decide)
theorem names_2 (x : FVec F S1x2048x1024 .f32) (t : IVec S8 32) (h : Cert.Pre_rolled_by_2_Kernel.fn (F := F) x t = fun _ => 1#1) :
    Names t (rotation 2) := names_of_equal 2 t _ h (by decide)
theorem names_3 (x : FVec F S1x2048x1024 .f32) (t : IVec S8 32) (h : Cert.Pre_rolled_by_3_Kernel.fn (F := F) x t = fun _ => 1#1) :
    Names t (rotation 3) := names_of_equal 3 t _ h (by decide)
theorem names_4 (x : FVec F S1x2048x1024 .f32) (t : IVec S8 32) (h : Cert.Pre_rolled_by_4_Kernel.fn (F := F) x t = fun _ => 1#1) :
    Names t (rotation 4) := names_of_equal 4 t _ h (by decide)
theorem names_5 (x : FVec F S1x2048x1024 .f32) (t : IVec S8 32) (h : Cert.Pre_rolled_by_5_Kernel.fn (F := F) x t = fun _ => 1#1) :
    Names t (rotation 5) := names_of_equal 5 t _ h (by decide)
theorem names_6 (x : FVec F S1x2048x1024 .f32) (t : IVec S8 32) (h : Cert.Pre_rolled_by_6_Kernel.fn (F := F) x t = fun _ => 1#1) :
    Names t (rotation 6) := names_of_equal 6 t _ h (by decide)
theorem names_7 (x : FVec F S1x2048x1024 .f32) (t : IVec S8 32) (h : Cert.Pre_rolled_by_7_Kernel.fn (F := F) x t = fun _ => 1#1) :
    Names t (rotation 7) := names_of_equal 7 t _ h (by decide)

end Cert.Permute

end
-- ==== Proof.lean ====
/-
# The certificate

Every claim is one of `Claims.lean`'s facts at the rotation which its precondition names.
-/
module

public import proofs.«01_k».proof.Defs
public import proofs.«01_k».proof.Proof.Claims
public import proofs.«01_k».proof.Proof.Rotations
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_rolled_by_1_Kernel
public import proofs.«01_k».proof.Proof.Gen.Pre_rolled_by_2_Kernel
public import proofs.«01_k».proof.Proof.Gen.Pre_rolled_by_3_Kernel
public import proofs.«01_k».proof.Proof.Gen.Pre_rolled_by_4_Kernel
public import proofs.«01_k».proof.Proof.Gen.Pre_rolled_by_5_Kernel
public import proofs.«01_k».proof.Proof.Gen.Pre_rolled_by_6_Kernel
public import proofs.«01_k».proof.Proof.Gen.Pre_rolled_by_7_Kernel
public import proofs.«01_k».proof.Proof.Gen.Pre_rolled_by_1_ReferenceIdeal
public import proofs.«01_k».proof.Proof.Gen.Pre_rolled_by_2_ReferenceIdeal
public import proofs.«01_k».proof.Proof.Gen.Pre_rolled_by_3_ReferenceIdeal
public import proofs.«01_k».proof.Proof.Gen.Pre_rolled_by_4_ReferenceIdeal
public import proofs.«01_k».proof.Proof.Gen.Pre_rolled_by_5_ReferenceIdeal
public import proofs.«01_k».proof.Proof.Gen.Pre_rolled_by_6_ReferenceIdeal
public import proofs.«01_k».proof.Proof.Gen.Pre_rolled_by_7_ReferenceIdeal
public import Idealize.ShloMosaic.Adequacy
public import Idealize.ShloMosaic.Init

@[expose] public section

noncomputable section

namespace Cert.Proof

open Idealize.ShloMosaic Idealize.SL.Sem Cert.Permute

theorem claim : Cert.Claim :=
  ⟨Cert.Kernel.Gen.facts, Cert.KernelIdeal.Gen.facts, Cert.ReferenceIdeal.Gen.facts,
    Cert.Pre_rolled_by_1_Kernel.Gen.facts,
    Cert.Pre_rolled_by_2_Kernel.Gen.facts,
    Cert.Pre_rolled_by_3_Kernel.Gen.facts,
    Cert.Pre_rolled_by_4_Kernel.Gen.facts,
    Cert.Pre_rolled_by_5_Kernel.Gen.facts,
    Cert.Pre_rolled_by_6_Kernel.Gen.facts,
    Cert.Pre_rolled_by_7_Kernel.Gen.facts,
    Cert.Pre_rolled_by_1_ReferenceIdeal.Gen.facts,
    Cert.Pre_rolled_by_2_ReferenceIdeal.Gen.facts,
    Cert.Pre_rolled_by_3_ReferenceIdeal.Gen.facts,
    Cert.Pre_rolled_by_4_ReferenceIdeal.Gen.facts,
    Cert.Pre_rolled_by_5_ReferenceIdeal.Gen.facts,
    Cert.Pre_rolled_by_6_ReferenceIdeal.Gen.facts,
    Cert.Pre_rolled_by_7_ReferenceIdeal.Gen.facts,
    -- the kernel as printed runs
    fun m g h => frame_printed (rotation 1) m g fun c => names_1 _ _ (h c),
    fun m g h => frame_printed (rotation 2) m g fun c => names_2 _ _ (h c),
    fun m g h => frame_printed (rotation 3) m g fun c => names_3 _ _ (h c),
    fun m g h => frame_printed (rotation 4) m g fun c => names_4 _ _ (h c),
    fun m g h => frame_printed (rotation 5) m g fun c => names_5 _ _ (h c),
    fun m g h => frame_printed (rotation 6) m g fun c => names_6 _ _ (h c),
    fun m g h => frame_printed (rotation 7) m g fun c => names_7 _ _ (h c),
    -- the idealized kernel runs
    fun m g h => frame_of (rotation 1) m g fun c => names_1 _ _ (h c),
    fun m g h => frame_of (rotation 2) m g fun c => names_2 _ _ (h c),
    fun m g h => frame_of (rotation 3) m g fun c => names_3 _ _ (h c),
    fun m g h => frame_of (rotation 4) m g fun c => names_4 _ _ (h c),
    fun m g h => frame_of (rotation 5) m g fun c => names_5 _ _ (h c),
    fun m g h => frame_of (rotation 6) m g fun c => names_6 _ _ (h c),
    fun m g h => frame_of (rotation 7) m g fun c => names_7 _ _ (h c),
    -- the reference runs, whatever its table
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    -- the idealization replaces nothing
    trivial,
    -- each device's result is its block of the reference's
    fun m g m' g' h => value_of (rotation 1) m g m' g' fun c => names_1 _ _ (h c),
    fun m g m' g' h => value_of (rotation 2) m g m' g' fun c => names_2 _ _ (h c),
    fun m g m' g' h => value_of (rotation 3) m g m' g' fun c => names_3 _ _ (h c),
    fun m g m' g' h => value_of (rotation 4) m g m' g' fun c => names_4 _ _ (h c),
    fun m g m' g' h => value_of (rotation 5) m g m' g' fun c => names_5 _ _ (h c),
    fun m g m' g' h => value_of (rotation 6) m g m' g' fun c => names_6 _ _ (h c),
    fun m g m' g' h => value_of (rotation 7) m g m' g' fun c => names_7 _ _ (h c)⟩

end Cert.Proof

end
